-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_are_counts [hPre_counts_are_counts : Cert.Pre_counts_are_counts.Facts] (m : (ℓ : Loc Cert.KernelIdeal.nD Cert.KernelIdeal.τ Cert.KernelIdeal.sig) → Buf (Elt Ideal) ℓ) : Prop :=
  ∀ c : Dev Cert.KernelIdeal.nD,
    (Cert.Pre_counts_are_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_are_counts [hPre_counts_are_counts : Cert.Pre_counts_are_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_are_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_counts_are_counts [hKernelIdeal : Cert.KernelIdeal.Facts] [hPre_counts_are_counts : Cert.Pre_counts_are_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_are_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_counts_are_counts [hReferenceIdeal : Cert.ReferenceIdeal.Facts] [hPre_counts_are_counts : Cert.Pre_counts_are_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_are_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_counts_are_counts [hKernelIdeal : Cert.KernelIdeal.Facts] [hReferenceIdeal : Cert.ReferenceIdeal.Facts] [hPre_counts_are_counts : Cert.Pre_counts_are_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_are_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_counts_are_counts : Cert.Pre_counts_are_counts.Facts),
    quiescent_Kernel (hKernel := hKernel)
    ∧ quiescent_KernelIdeal (hKernelIdeal := hKernelIdeal)
    ∧ quiescent_KernelIdeal_pre_counts_are_counts (hKernelIdeal := hKernelIdeal) (hPre_counts_are_counts := hPre_counts_are_counts)
    ∧ quiescent_ReferenceIdeal (hReferenceIdeal := hReferenceIdeal)
    ∧ quiescent_ReferenceIdeal_pre_counts_are_counts (hReferenceIdeal := hReferenceIdeal) (hPre_counts_are_counts := hPre_counts_are_counts)
    ∧ preserves_Kernel_KernelIdeal
    ∧ algebraic_KernelIdeal_ReferenceIdeal_pre_counts_are_counts (hKernelIdeal := hKernelIdeal) (hReferenceIdeal := hReferenceIdeal) (hPre_counts_are_counts := hPre_counts_are_counts)
-- ==== Pre_counts_are_counts.lean ====
abbrev S4x2560x7168 : Shape := ⟨3, ![4, 2560, 7168]⟩
abbrev S4x2560x56 : Shape := ⟨3, ![4, 2560, 56]⟩
abbrev S4x20 : Shape := ⟨2, ![4, 20]⟩
abbrev S4x4096x7168 : Shape := ⟨3, ![4, 4096, 7168]⟩
abbrev S4x32x56 : Shape := ⟨3, ![4, 32, 56]⟩
abbrev S_ : Shape := ⟨0, ![]⟩

class Facts : Prop where
  bcast_S_S4x20 : S_.BroadcastsInDim S4x20 (![] : Fin 0 → Fin S4x20.rank)
  reducesTo_S4x20_S_d0_1 : S4x20.ReducesTo [0, 1] S_
  h_S_ : 0 < S_.numel

variable [Facts]

def fn {F : FTy → Type} [FloatOps F] (main_arg0 : FVec F S4x2560x7168 .fp8e4m3) (main_arg1 : FVec F S4x2560x56 .f32) (main_arg2 : IVec S4x20 32) (main_arg3 : IVec S4x20 32) (main_arg4 : FVec F S4x4096x7168 .fp8e4m3) (main_arg5 : FVec F S4x32x56 .f32) : IVec S_ 1 :=
  let main_c : IVec S_ 32 := constantI S_ 32 0#32
  let main_v0 : IVec S4x20 32 := broadcastInDim S4x20 ![] bcast_S_S4x20 main_c
  let main_v1 : IVec S4x20 1 := cmpi .sge main_arg3 main_v0
  let main_c_0 : IVec S_ 1 := constantI S_ 1 1#1
  let main_v2 : IVec S_ 1 := (fun x v => Host.reduce IntOp.andi x v reducesTo_S4x20_S_d0_1 h_S_) main_v1 main_c_0
  main_v2
-- ==== Kernel.lean ====
abbrev S4x2560x7168 : Shape := ⟨3, ![4, 2560, 7168]⟩
abbrev S4x2560x56 : Shape := ⟨3, ![4, 2560, 56]⟩
abbrev S4x20 : Shape := ⟨2, ![4, 20]⟩
abbrev S4x4096x7168 : Shape := ⟨3, ![4, 4096, 7168]⟩
abbrev S4x32x56 : Shape := ⟨3, ![4, 32, 56]⟩
abbrev S10 : Shape := ⟨1, ![10]⟩
abbrev S1x10x1 : Shape := ⟨3, ![1, 10, 1]⟩
abbrev S_ : Shape := ⟨0, ![]⟩
abbrev S4x1x20 : Shape := ⟨3, ![4, 1, 20]⟩
abbrev S4x10x20 : Shape := ⟨3, ![4, 10, 20]⟩
abbrev S4x10 : Shape := ⟨2, ![4, 10]⟩
abbrev S40 : Shape := ⟨1, ![40]⟩
abbrev S80 : Shape := ⟨1, ![80]⟩
abbrev S7168 : Shape := ⟨1, ![7168]⟩
abbrev S4x2560x2048 : Shape := ⟨3, ![4, 2560, 2048]⟩
abbrev S4x2560x16 : Shape := ⟨3, ![4, 2560, 16]⟩
abbrev S1x256x7168 : Shape := ⟨3, ![1, 256, 7168]⟩
abbrev S1 : Shape := ⟨1, ![1]⟩
abbrev S1x256x56 : Shape := ⟨3, ![1, 256, 56]⟩
abbrev S1x256x256 : Shape := ⟨3, ![1, 256, 256]⟩
abbrev S1x256x16 : Shape := ⟨3, ![1, 256, 16]⟩
abbrev S256x7168 : Shape := ⟨2, ![256, 7168]⟩
abbrev S512x7168 : Shape := ⟨2, ![512, 7168]⟩
abbrev S256x128 : Shape := ⟨2, ![256, 128]⟩
abbrev S1x256x1 : Shape := ⟨3, ![1, 256, 1]⟩
abbrev S256x1 : Shape := ⟨2, ![256, 1]⟩
abbrev S1x256x128 : Shape := ⟨3, ![1, 256, 128]⟩
abbrev S1x128x128 : Shape := ⟨3, ![1, 128, 128]⟩
abbrev S128x128 : Shape := ⟨2, ![128, 128]⟩
abbrev S256x512 : Shape := ⟨2, ![256, 512]⟩
abbrev S256x256 : Shape := ⟨2, ![256, 256]⟩
abbrev S256x16 : Shape := ⟨2, ![256, 16]⟩
abbrev S256 : Shape := ⟨1, ![256]⟩

abbrev nBuf : Space → Nat
  | .hbm => 85
  | .vmem => 14
  | .smem => 6
  | _ => 0

abbrev bufTy : (tb : Table) → Fin (tcTables nBuf tb) → BufTy
  | .hbm, ⟨0, _⟩ => ⟨S4x2560x7168, .fp8e4m3⟩
  | .hbm, ⟨1, _⟩ => ⟨S4x2560x56, .f32⟩
  | .hbm, ⟨2, _⟩ => ⟨S4x20, .i32⟩
  | .hbm, ⟨3, _⟩ => ⟨S4x20, .i32⟩
  | .hbm, ⟨4, _⟩ => ⟨S4x4096x7168, .fp8e4m3⟩
  | .hbm, ⟨5, _⟩ => ⟨S4x32x56, .f32⟩
  | .hbm, ⟨6, _⟩ => ⟨S10, .i32⟩
  | .hbm, ⟨7, _⟩ => ⟨S1x10x1, .i32⟩
  | .hbm, ⟨8, _⟩ => ⟨S_, .i32⟩
  | .hbm, ⟨9, _⟩ => ⟨S1x10x1, .i32⟩
  | .hbm, ⟨10, _⟩ => ⟨S1x10x1, .i32⟩
  | .hbm, ⟨11, _⟩ => ⟨S4x1x20, .i32⟩
  | .hbm, ⟨12, _⟩ => ⟨S4x20, .i32⟩
  | .hbm, ⟨13, _⟩ => ⟨S4x1x20, .i32⟩
  | .hbm, ⟨14, _⟩ => ⟨S_, .i32⟩
  | .hbm, ⟨15, _⟩ => ⟨S1x10x1, .i32⟩
  | .hbm, ⟨16, _⟩ => ⟨S1x10x1, .i32⟩
  | .hbm, ⟨17, _⟩ => ⟨S4x10x20, .i32⟩
  | .hbm, ⟨18, _⟩ => ⟨S4x10x20, .i32⟩
  | .hbm, ⟨19, _⟩ => ⟨S4x10x20, .i1⟩
  | .hbm, ⟨20, _⟩ => ⟨S4x10x20, .i32⟩
  | .hbm, ⟨21, _⟩ => ⟨S4x10x20, .i32⟩
  | .hbm, ⟨22, _⟩ => ⟨S4x10x20, .i1⟩
  | .hbm, ⟨23, _⟩ => ⟨S4x10x20, .i1⟩
  | .hbm, ⟨24, _⟩ => ⟨S_, .i32⟩
  | .hbm, ⟨25, _⟩ => ⟨S4x20, .i32⟩
  | .hbm, ⟨26, _⟩ => ⟨S4x20, .i1⟩
  | .hbm, ⟨27, _⟩ => ⟨S4x1x20, .i1⟩
  | .hbm, ⟨28, _⟩ => ⟨S4x10x20, .i1⟩
  | .hbm, ⟨29, _⟩ => ⟨S4x10x20, .i1⟩
  | .hbm, ⟨30, _⟩ => ⟨S_, .i1⟩
  | .hbm, ⟨31, _⟩ => ⟨S4x10, .i1⟩
  | .hbm, ⟨32, _⟩ => ⟨S40, .i1⟩
  | .hbm, ⟨33, _⟩ => ⟨S40, .i32⟩
  | .hbm, ⟨34, _⟩ => ⟨S_, .i32⟩
  | .hbm, ⟨35, _⟩ => ⟨S_, .i32⟩
  | .hbm, ⟨36, _⟩ => ⟨S40, .i32⟩
  | .hbm, ⟨37, _⟩ => ⟨S40, .i32⟩
  | .hbm, ⟨38, _⟩ => ⟨S_, .i32⟩
  | .hbm, ⟨39, _⟩ => ⟨S_, .i32⟩
  | .hbm, ⟨40, _⟩ => ⟨S40, .i32⟩
  | .hbm, ⟨41, _⟩ => ⟨S_, .i32⟩
  | .hbm, ⟨42, _⟩ => ⟨S40, .i32⟩
  | .hbm, ⟨43, _⟩ => ⟨S40, .i32⟩
  | .hbm, ⟨44, _⟩ => ⟨S_, .i32⟩
  | .hbm, ⟨45, _⟩ => ⟨S_, .i32⟩
  | .hbm, ⟨46, _⟩ => ⟨S40, .i32⟩
  | .hbm, ⟨47, _⟩ => ⟨S40, .i32⟩
  | .hbm, ⟨48, _⟩ => ⟨S40, .i32⟩
  | .hbm, ⟨49, _⟩ => ⟨S_, .i32⟩
  | .hbm, ⟨50, _⟩ => ⟨S40, .i32⟩
  | .hbm, ⟨51, _⟩ => ⟨S40, .i1⟩
  | .hbm, ⟨52, _⟩ => ⟨S40, .i32⟩
  | .hbm, ⟨53, _⟩ => ⟨S40, .i32⟩
  | .hbm, ⟨54, _⟩ => ⟨S_, .i32⟩
  | .hbm, ⟨55, _⟩ => ⟨S40, .i32⟩
  | .hbm, ⟨56, _⟩ => ⟨S40, .i1⟩
  | .hbm, ⟨57, _⟩ => ⟨S40, .i1⟩
  | .hbm, ⟨58, _⟩ => ⟨S_, .i32⟩
  | .hbm, ⟨59, _⟩ => ⟨S40, .i32⟩
  | .hbm, ⟨60, _⟩ => ⟨S40, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S40, .i32⟩
  | .hbm, ⟨68, _⟩ => ⟨S40, .i32⟩
  | .hbm, ⟨69, _⟩ => ⟨S_, .i32⟩
  | .hbm, ⟨70, _⟩ => ⟨S40, .i32⟩
  | .hbm, ⟨71, _⟩ => ⟨S40, .i1⟩
  | .hbm, ⟨72, _⟩ => ⟨S_, .i32⟩
  | .hbm, ⟨73, _⟩ => ⟨S40, .i32⟩
  | .hbm, ⟨74, _⟩ => ⟨S40, .i1⟩
  | .hbm, ⟨75, _⟩ => ⟨S_, .i32⟩
  | .hbm, ⟨76, _⟩ => ⟨S_, .i1⟩
  | .hbm, ⟨77, _⟩ => ⟨S40, .i1⟩
  | .hbm, ⟨78, _⟩ => ⟨S40, .i1⟩
  | .hbm, ⟨79, _⟩ => ⟨S40, .i1⟩
  | .hbm, ⟨80, _⟩ => ⟨S40, .i32⟩
  | .hbm, ⟨81, _⟩ => ⟨S40, .i32⟩
  | .hbm, ⟨82, _⟩ => ⟨S7168, .f32⟩
  | .hbm, ⟨83, _⟩ => ⟨S4x2560x2048, .fp8e4m3⟩
  | .hbm, ⟨84, _⟩ => ⟨S4x2560x16, .f32⟩
  | .local _ .vmem, ⟨0, _⟩ => ⟨S1x256x7168, .fp8e4m3⟩
  | .local _ .vmem, ⟨1, _⟩ => ⟨S1x256x7168, .fp8e4m3⟩
  | .local _ .vmem, ⟨2, _⟩ => ⟨S1x256x56, .f32⟩
  | .local _ .vmem, ⟨3, _⟩ => ⟨S1x256x56, .f32⟩
  | .local _ .vmem, ⟨4, _⟩ => ⟨S1x256x7168, .fp8e4m3⟩
  | .local _ .vmem, ⟨5, _⟩ => ⟨S1x256x7168, .fp8e4m3⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x256x256, .fp8e4m3⟩
  | .local _ .vmem, ⟨9, _⟩ => ⟨S1x256x256, .fp8e4m3⟩
  | .local _ .vmem, ⟨10, _⟩ => ⟨S1x256x16, .f32⟩
  | .local _ .vmem, ⟨11, _⟩ => ⟨S1x256x16, .f32⟩
  | .local _ .vmem, ⟨12, _⟩ => ⟨S256x7168, .bf16⟩
  | .local _ .vmem, ⟨13, _⟩ => ⟨S512x7168, .bf16⟩
  | .local _ .smem, ⟨0, _⟩ => ⟨S80, .i32⟩
  | .local _ .smem, ⟨1, _⟩ => ⟨S80, .i32⟩
  | .local _ .smem, ⟨2, _⟩ => ⟨S40, .i32⟩
  | .local _ .smem, ⟨3, _⟩ => ⟨S40, .i32⟩
  | .local _ .smem, ⟨4, _⟩ => ⟨S40, .i32⟩
  | .local _ .smem, ⟨5, _⟩ => ⟨S7168, .f32⟩
  | _, _ => ⟨S4x2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨5, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_call1_c : Ref sig .tc := ⟨.hbm, 38, rfl⟩
abbrev main_call1_v0 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_c_6 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v33 : Ref sig .tc := ⟨.hbm, 82, rfl⟩
abbrev main_v34_0 : Ref sig .tc := ⟨.hbm, 83, rfl⟩
abbrev main_v34_1 : Ref sig .tc := ⟨.hbm, 84, rfl⟩
abbrev main_v31 : Ref sig .tc := ⟨.smem, 0, rfl⟩
abbrev main_v32 : Ref sig .tc := ⟨.smem, 1, rfl⟩
abbrev main_v28 : Ref sig .tc := ⟨.smem, 2, rfl⟩
abbrev main_v29 : Ref sig .tc := ⟨.smem, 3, rfl⟩
abbrev main_v30 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![40, 8], ![false, false]⟩

abbrev pre0 : Pipeline.Prefetch sig := ⟨5, ![main_v31.idx, main_v32.idx, main_v28.idx, main_v29.idx, main_v30.idx], fun | 0 => main_v31.names | 1 => main_v32.names | 2 => main_v28.names | 3 => main_v29.names | 4 => main_v30.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v32 : Index := Scalar.indexCast arg0
  ![v32.toNat]
def k0_cond4 (i : grid0.Coords) : BitVec 1 :=
  let arg1 : BitVec 32 := BitVec.ofNat 32 (i 1).val
  let c0_i32_14 : BitVec 32 := 0#32
  let v37 : BitVec 1 := Scalar.cmpi .eq arg1 c0_i32_14
  let v38 : BitVec 32 := Scalar.extui v37
  let c0_i32_15 : BitVec 32 := 0#32
  let v39 : BitVec 1 := Scalar.cmpi .ne v38 c0_i32_15
  v39

def k0_off3 (i : grid0.Coords) (c0_i32_1577 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c10_i32 : BitVec 32 := 10#32
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let v0 : BitVec 32 := Scalar.divsi arg0 c10_i32
  let c1_i32 : BitVec 32 := 1#32
  let v15 : BitVec 32 := Scalar.subi v0 c1_i32
  let v16 : BitVec 32 := Scalar.select v14 v15 v0
  let c20_i32_1576 : BitVec 32 := 20#32
  let v3215 : BitVec 32 := Scalar.muli v16 c20_i32_1576
  let v3216 : BitVec 32 := Scalar.addi v3215 c0_i32_1577
  let v3217 : Index := Scalar.indexCast v3216
  ![v3217.toNat]
def k0_off4 (i : grid0.Coords) (c0_i32_18 : BitVec 32) (c0_i32_19 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c10_i32 : BitVec 32 := 10#32
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let v0 : BitVec 32 := Scalar.divsi arg0 c10_i32
  let c1_i32 : BitVec 32 := 1#32
  let v15 : BitVec 32 := Scalar.subi v0 c1_i32
  let v16 : BitVec 32 := Scalar.select v14 v15 v0
  let c2_i32 : BitVec 32 := 2#32
  let v40 : BitVec 32 := Scalar.muli v16 c2_i32
  let c16_i32 : BitVec 32 := 16#32
  let v41 : BitVec 32 := Scalar.muli v40 c16_i32
  let c56_i32 : BitVec 32 := 56#32
  let v42 : BitVec 32 := Scalar.muli v41 c56_i32
  let arg1 : BitVec 32 := BitVec.ofNat 32 (i 1).val
  let c2_i32_16 : BitVec 32 := 2#32
  let v43 : BitVec 32 := Scalar.muli arg1 c2_i32_16
  let c56_i32_17 : BitVec 32 := 56#32
  let v44 : BitVec 32 := Scalar.muli v43 c56_i32_17
  let v45 : BitVec 32 := Scalar.addi v42 v44
  let v46 : BitVec 32 := Scalar.addi v45 c0_i32_18
  let v47 : BitVec 32 := Scalar.addi v46 c0_i32_19
  let v48 : Index := Scalar.indexCast v47
  ![v48.toNat]
def k0_off5 (i : grid0.Coords) (c0_i32_695 : BitVec 32) (c0_i32_696 : BitVec 32) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c10_i32 : BitVec 32 := 10#32
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let v0 : BitVec 32 := Scalar.divsi arg0 c10_i32
  let c1_i32 : BitVec 32 := 1#32
  let v15 : BitVec 32 := Scalar.subi v0 c1_i32
  let v16 : BitVec 32 := Scalar.select v14 v15 v0
  let c2_i32 : BitVec 32 := 2#32
  let v40 : BitVec 32 := Scalar.muli v16 c2_i32
  let c16_i32 : BitVec 32 := 16#32
  let v41 : BitVec 32 := Scalar.muli v40 c16_i32
  let c56_i32 : BitVec 32 := 56#32
  let v42 : BitVec 32 := Scalar.muli v41 c56_i32
  let arg1 : BitVec 32 := BitVec.ofNat 32 (i 1).val
  let c2_i32_16 : BitVec 32 := 2#32
  let v43 : BitVec 32 := Scalar.muli arg1 c2_i32_16
  let c56_i32_17 : BitVec 32 := 56#32
  let v44 : BitVec 32 := Scalar.muli v43 c56_i32_17
  let v45 : BitVec 32 := Scalar.addi v42 v44
  let c896_i32 : BitVec 32 := 896#32
  let v1502 : BitVec 32 := Scalar.addi v45 c896_i32
  let v1503 : BitVec 32 := Scalar.addi v1502 c0_i32_695
  let v1504 : BitVec 32 := Scalar.addi v1503 c0_i32_696
  let v1505 : Index := Scalar.indexCast v1504
  ![v1505.toNat]
def k0_cond1 (v28 : BitVec 32) : BitVec 1 :=
  let c0_i32_10 : BitVec 32 := 0#32
  let v29 : BitVec 1 := Scalar.cmpi .eq v28 c0_i32_10
  let v30 : BitVec 32 := Scalar.extui v29
  let c0_i32_11 : BitVec 32 := 0#32
  let v31 : BitVec 1 := Scalar.cmpi .ne v30 c0_i32_11
  v31

def k0_cond3 (v33 : BitVec 32) : BitVec 1 :=
  let c1_i32_12 : BitVec 32 := 1#32
  let v34 : BitVec 1 := Scalar.cmpi .eq v33 c1_i32_12
  let v35 : BitVec 32 := Scalar.extui v34
  let c0_i32_13 : BitVec 32 := 0#32
  let v36 : BitVec 1 := Scalar.cmpi .ne v35 c0_i32_13
  v36

def k0_cond2 (i : grid0.Coords) : BitVec 1 :=
  let arg1 : BitVec 32 := BitVec.ofNat 32 (i 1).val
  let c0_i32_16 : BitVec 32 := 0#32
  let v40 : BitVec 1 := Scalar.cmpi .eq arg1 c0_i32_16
  let v41 : BitVec 32 := Scalar.extui v40
  let c0_i32_17 : BitVec 32 := 0#32
  let v42 : BitVec 1 := Scalar.cmpi .ne v41 c0_i32_17
  v42

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S40) ![v0.toNat] S1.size (k0_off1_inb i)) numel1_S1
  let v2 : Index := Scalar.indexCast arg0
  let v3 : BitVec 32 := pf.at 3 (Rect.unit (s := S40) ![v2.toNat] S1.size (k0_off1_inb i)) numel1_S1
  let c0_i32 : BitVec 32 := 0#32
  let c0_i32_0 : BitVec 32 := 0#32
  ![v1.toNat, v3.toNat, c0_i32.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S40) ![v0.toNat] S1.size (k0_off1_inb i)) numel1_S1
  let v2 : Index := Scalar.indexCast arg0
  let v3 : BitVec 32 := pf.at 3 (Rect.unit (s := S40) ![v2.toNat] S1.size (k0_off1_inb i)) numel1_S1
  let c0_i32 : BitVec 32 := 0#32
  let c0_i32_0 : BitVec 32 := 0#32
  ![v1.toNat, v3.toNat, c0_i32.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S40) ![v0.toNat] S1.size (k0_off1_inb i)) numel1_S1
  let v2 : Index := Scalar.indexCast arg0
  let v3 : BitVec 32 := pf.at 4 (Rect.unit (s := S40) ![v2.toNat] S1.size (k0_off1_inb i)) numel1_S1
  let c1_i32 : BitVec 32 := 1#32
  let v4 : BitVec 1 := Scalar.cmpi .eq v3 c1_i32
  let c7_i32 : BitVec 32 := 7#32
  let v5 : BitVec 32 := Scalar.select v4 arg1 c7_i32
  let c0_i32 : BitVec 32 := 0#32
  let v6 : BitVec 32 := Scalar.addi v5 c0_i32
  let c0_i32_0 : BitVec 32 := 0#32
  let c0_i32_1 : BitVec 32 := 0#32
  ![v1.toNat, v6.toNat, c0_i32_0.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S40) ![v0.toNat] S1.size (k0_off1_inb i)) numel1_S1
  let v2 : Index := Scalar.indexCast arg0
  let v3 : BitVec 32 := pf.at 4 (Rect.unit (s := S40) ![v2.toNat] S1.size (k0_off1_inb i)) numel1_S1
  let c1_i32 : BitVec 32 := 1#32
  let v4 : BitVec 1 := Scalar.cmpi .eq v3 c1_i32
  let c7_i32 : BitVec 32 := 7#32
  let v5 : BitVec 32 := Scalar.select v4 arg1 c7_i32
  let c8_i32 : BitVec 32 := 8#32
  let v6 : BitVec 32 := Scalar.addi v5 c8_i32
  let c0_i32 : BitVec 32 := 0#32
  let c0_i32_0 : BitVec 32 := 0#32
  ![v1.toNat, v6.toNat, c0_i32.toNat]

def cc0_transform_5 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.divsi arg0 c10_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32_4 : BitVec 32 := 10#32
  let c0_i32_5 : BitVec 32 := 0#32
  let v17 : BitVec 1 := Scalar.cmpi .eq c10_i32_4 c0_i32_5
  let c1_i32_6 : BitVec 32 := 1#32
  let v18 : BitVec 32 := Scalar.select v17 c1_i32_6 c10_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_6 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.divsi arg0 c10_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c10_i32 c0_i32_1
  let v7 : BitVec 32 := Scalar.extui v6
  let c0_i32_2 : BitVec 32 := 0#32
  let v8 : BitVec 1 := Scalar.cmpi .slt c10_i32 c0_i32_2
  let v9 : BitVec 32 := Scalar.extui v8
  let v10 : BitVec 32 := Scalar.subi v7 v9
  let v11 : BitVec 1 := Scalar.cmpi .ne v5 v10
  let v12 : BitVec 32 := Scalar.remsi arg0 c10_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32_4 : BitVec 32 := 10#32
  let c0_i32_5 : BitVec 32 := 0#32
  let v17 : BitVec 1 := Scalar.cmpi .eq c10_i32_4 c0_i32_5
  let c1_i32_6 : BitVec 32 := 1#32
  let v18 : BitVec 32 := Scalar.select v17 c1_i32_6 c10_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .smem S7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2560x7168 : Shape := ⟨3, ![4, 2560, 7168]⟩
abbrev S4x2560x56 : Shape := ⟨3, ![4, 2560, 56]⟩
abbrev S4x20 : Shape := ⟨2, ![4, 20]⟩
abbrev S4x4096x7168 : Shape := ⟨3, ![4, 4096, 7168]⟩
abbrev S4x32x56 : Shape := ⟨3, ![4, 32, 56]⟩
abbrev S4x2560x2048 : Shape := ⟨3, ![4, 2560, 2048]⟩
abbrev S4x2560x16 : Shape := ⟨3, ![4, 2560, 16]⟩
abbrev S1x2560 : Shape := ⟨2, ![1, 2560]⟩
abbrev S2560 : Shape := ⟨1, ![2560]⟩
abbrev S1x1x2560 : Shape := ⟨3, ![1, 1, 2560]⟩
abbrev S4x20x1 : Shape := ⟨3, ![4, 20, 1]⟩
abbrev S4x20x2560 : Shape := ⟨3, ![4, 20, 2560]⟩
abbrev S4x2560 : Shape := ⟨2, ![4, 2560]⟩
abbrev S4x2560x56x1 : Shape := ⟨4, ![4, 2560, 56, 1]⟩
abbrev S4x2560x56x128 : Shape := ⟨4, ![4, 2560, 56, 128]⟩
abbrev S4x2560x1 : Shape := ⟨3, ![4, 2560, 1]⟩
abbrev S4x32x1x56 : Shape := ⟨4, ![4, 32, 1, 56]⟩
abbrev S4x32x128x56 : Shape := ⟨4, ![4, 32, 128, 56]⟩
abbrev S4x4096x56 : Shape := ⟨3, ![4, 4096, 56]⟩
abbrev S4x4096x56x1 : Shape := ⟨4, ![4, 4096, 56, 1]⟩
abbrev S4x4096x56x128 : Shape := ⟨4, ![4, 4096, 56, 128]⟩
abbrev S4x2560x4096 : Shape := ⟨3, ![4, 2560, 4096]⟩
abbrev S4x2560x16x128 : Shape := ⟨4, ![4, 2560, 16, 128]⟩
abbrev S1x252 : Shape := ⟨2, ![1, 252]⟩
abbrev S252 : Shape := ⟨1, ![252]⟩
abbrev S4x2560x16x1 : Shape := ⟨4, ![4, 2560, 16, 1]⟩
abbrev S1x1x1x252 : Shape := ⟨4, ![1, 1, 1, 252]⟩
abbrev S4x2560x16x252 : Shape := ⟨4, ![4, 2560, 16, 252]⟩

abbrev nBuf : Space → Nat
  | .hbm => 8
  | .vmem => 8
  | .smem => 0
  | _ => 0

abbrev bufTy : (tb : Table) → Fin (tcTables nBuf tb) → BufTy
  | .hbm, ⟨0, _⟩ => ⟨S4x2560x7168, .fp8e4m3⟩
  | .hbm, ⟨1, _⟩ => ⟨S4x2560x56, .f32⟩
  | .hbm, ⟨2, _⟩ => ⟨S4x20, .i32⟩
  | .hbm, ⟨3, _⟩ => ⟨S4x20, .i32⟩
  | .hbm, ⟨4, _⟩ => ⟨S4x4096x7168, .fp8e4m3⟩
  | .hbm, ⟨5, _⟩ => ⟨S4x32x56, .f32⟩
  | .hbm, ⟨6, _⟩ => ⟨S4x2560x2048, .fp8e4m3⟩
  | .hbm, ⟨7, _⟩ => ⟨S4x2560x16, .f32⟩
  | .local _ .vmem, ⟨0, _⟩ => ⟨S4x2560x7168, .fp8e4m3⟩
  | .local _ .vmem, ⟨1, _⟩ => ⟨S4x2560x56, .f32⟩
  | .local _ .vmem, ⟨2, _⟩ => ⟨S4x20, .i32⟩
  | .local _ .vmem, ⟨3, _⟩ => ⟨S4x20, .i32⟩
  | .local _ .vmem, ⟨4, _⟩ => ⟨S4x4096x7168, .fp8e4m3⟩
  | .local _ .vmem, ⟨5, _⟩ => ⟨S4x32x56, .f32⟩
  | .local _ .vmem, ⟨6, _⟩ => ⟨S4x2560x2048, .fp8e4m3⟩
  | .local _ .vmem, ⟨7, _⟩ => ⟨S4x2560x16, .f32⟩
  | _, _ => ⟨S4x2560x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x2560x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2560x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x20 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x20 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x32x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2560x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2560x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
module

public import proofs.«01_k».proof.Proof.Gen.Kernel
public import proofs.«01_k».proof.Proof.Gen.Kernel.Skeleton
public import Idealize.ShloMosaic.Lib.Tactic

@[expose] public section

set_option maxRecDepth 16384

noncomputable section

namespace Cert.Kernel.Up

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-- A memref's buffer on core `c`: its contents, held whole, or held at the readers' half. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev wt (c : Dev nD) {sp : Space} {S : Shape} {e : EltTy} (M : Memref sig .tc sp S e) (f : Bf (F := F) c M) : sProp 𝕄 :=
  M.view.loc (c : Thread nD τ) ↦[M.view.set]{fullShare} f
abbrev tb (c : Dev nD) {sp : Space} {S : Shape} {e : EltTy} (M : Memref sig .tc sp S e) (f : Bf (F := F) c M) : sProp 𝕄 :=
  M.view.loc (c : Thread nD τ) ↦{fullShare.right} f

/-- One grid step: what the two results' blocks and the two scratch arrays hold after it, with the proof that the body
    runs to its end and leaves them there. -/
def step (c : Dev nD) (i : grid0.Coords)
    (M2 : Memref sig .tc .smem S80 .i32) (h2 : M2.IsWhole)
    (M3 : Memref sig .tc .smem S80 .i32) (h3 : M3.IsWhole)
    (M4 : Memref sig .tc .smem S40 .i32) (h4 : M4.IsWhole)
    (M5 : Memref sig .tc .smem S40 .i32) (h5 : M5.IsWhole)
    (M6 : Memref sig .tc .smem S40 .i32) (h6 : M6.IsWhole)
    (M7 : Memref sig .tc .smem S7168 .f32) (h7 : M7.IsWhole)
    (M8 : Memref sig .tc .vmem S1x256x7168 .fp8e4m3) (h8 : M8.IsWhole)
    (M9 : Memref sig .tc .vmem S1x256x56 .f32) (h9 : M9.IsWhole)
    (M10 : Memref sig .tc .vmem S1x256x7168 .fp8e4m3) (h10 : M10.IsWhole)
    (M11 : Memref sig .tc .vmem S1x256x7168 .fp8e4m3) (h11 : M11.IsWhole)
    (M12 : Memref sig .tc .vmem S1x256x256 .fp8e4m3) (h12 : M12.IsWhole)
    (M13 : Memref sig .tc .vmem S1x256x16 .f32) (h13 : M13.IsWhole)
    (M14 : Memref sig .tc .vmem S256x7168 .bf16) (h14 : M14.IsWhole)
    (M15 : Memref sig .tc .vmem S512x7168 .bf16) (h15 : M15.IsWhole)
    (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M12 × Bf (F := F) c M13 × Bf (F := F) c M14 × Bf (F := F) c M15 //
      ∀ (E : Set ℕ) (Q : PUnit → sProp 𝕄),
        iprop(tb c M2 f2 ∗ tb c M3 f3 ∗ tb c M6 f6 ∗ wt c M7 f7 ∗ wt c M8 f8 ∗ wt c M9 f9 ∗ wt c M10 f10 ∗ wt c M11 f11
          ∗ wt c M12 f12 ∗ wt c M13 f13 ∗ pt c M14 f14 ∗ pt c M15 f15
          ∗ (iprop(tb c M2 f2 ∗ tb c M3 f3 ∗ tb c M6 f6 ∗ wt c M7 f7 ∗ wt c M8 f8 ∗ wt c M9 f9 ∗ wt c M10 f10 ∗ wt c M11 f11
              ∗ wt c M12 W.1 ∗ wt c M13 W.2.1 ∗ pt c M14 W.2.2.1 ∗ pt c M15 W.2.2.2) -∗ Q ⟨⟩))
        ⊢ wp frame (wpE (defs₀ (F := F)) Variants.none c none) E
            (cc0_up i M2 h2 M3 h3 M4 h4 M5 h5 M6 h6 M7 h7 M8 h8 M9 h9 M10 h10 M11 h11 M12 h12 M13 h13 M14 h14 M15 h15) Q } := by
  refine ⟨⟨?_, ?_, ?_, ?_⟩, fun E Q => ?run⟩
  case run =>
    iintro ⟨H2, H3, H6, H7, H8, H9, H10, H11, H12, H13, H14, H15, Hk⟩
    sl_exec_parts!
    sl_step
    iapply Hk
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Kernel.Up

end
-- ==== Proof.Setup.lean ====
module

public import proofs.«01_k».proof.Proof.Gen.Kernel.Launch
public import proofs.«01_k».proof.Proof.Body
public import Idealize.ShloMosaic.Lib.Pipeline.FrameBody
public import Idealize.ShloMosaic.Lib.Claim
public import Idealize.ShloMosaic.Lib.WordCmp

@[expose] public section

set_option maxRecDepth 16384

noncomputable section

namespace Cert.Kernel.Up

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ) (ρ : Dev nD → PrngReg)

/-! ## Up to the call -/

/-- The host operations before the call, stretch by stretch. -/
abbrev host : List (List (HloOp τ sig (Elt F))) :=
  [hostOps0, hostOps0_1, hostOps0_2, hostOps0_3, hostOps0_4, hostOps0_5, hostOps0_6, hostOps0_7]

/-- Core `c`'s buffers when the call starts. -/
def V (c : Dev nD) (b : Ref sig .tc) : Buf (Elt F) ((c : Thread nD τ).loc b) := StableHlo.after host.flatten (fun b => m (c, b)) b

theorem host_sub : (host : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem host_fresh : (host : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main host host_sub host_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables when the call starts (there is one device). -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev mOff : Memref sig .tc .smem S80 .i32 := Memref.whole main_v31
abbrev mCnt : Memref sig .tc .smem S80 .i32 := Memref.whole main_v32
abbrev mTe : Memref sig .tc .smem S40 .i32 := Memref.whole main_v28
abbrev mTt : Memref sig .tc .smem S40 .i32 := Memref.whole main_v29
abbrev mTl : Memref sig .tc .smem S40 .i32 := Memref.whole main_v30
abbrev mXb : Memref sig .tc .vmem S256x7168 .bf16 := Memref.whole cc0_scratch0
abbrev mW : Memref sig .tc .vmem S512x7168 .bf16 := Memref.whole cc0_scratch1

theorem PhiT_eq (c : Dev nD) : (Pipeline.ΦT pre0 (tbl m) c : sProp 𝕄)
    = iprop(tb c mOff (tbl m 0) ∗ tb c mCnt (tbl m 1) ∗ tb c mTe (tbl m 2) ∗ tb c mTt (tbl m 3) ∗ tb c mTl (tbl m 4)) := by
  unfold Pipeline.ΦT Pipeline.prefHeld
  exact (bigSep_univ_eq_bigSepL [(0 : Fin 5), (1 : Fin 5), (2 : Fin 5), (3 : Fin 5), (4 : Fin 5)] (by decide) (by decide) _).trans rfl

theorem PhiA_eq (c : Dev nD) : (Pipeline.ΦA spec0 c : sProp 𝕄)
    = iprop(((∃ f, pt c mXb f) ∗ (∃ f, pt c mW f)) ∗ (∃ r, prngReg c r)) := by
  unfold Pipeline.ΦA; rw [scopedRest0_eq]

/-! ## The windows -/

/-- A window's block at point `t`, off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .smem S7168 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x256x7168 .fp8e4m3 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x256x56 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x7168 .fp8e4m3 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x256x7168 .fp8e4m3 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x256x256 .fp8e4m3 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x256x16 .f32 := spec0_6.stage ((cfgM m hO).slots t 6)
abbrev hs6 (hO : Ok m) (t : Fin (cfgM m hO).N) : (ms6 m hO t).IsWhole := hstage0_6 (((cfgM m hO).slots t 6).cast nbuf0_6)

/-- The body at point `t` on what the pipeline hands it. -/
abbrev bodyAt (hO : Ok m) (t : Fin (cfgM m hO).N) : Prog (TpuEff nD τ sig (Elt F) Λ₀ .tc) PUnit :=
  cc0_up (grid0.coords t) mOff (Memref.isWhole_whole _) mCnt (Memref.isWhole_whole _) mTe (Memref.isWhole_whole _) mTt (Memref.isWhole_whole _) mTl (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) mXb (Memref.isWhole_whole _) mW (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w)) (r : PUnit × MemSt nD τ sig (Elt F))
    (h : Pipeline.RDat.FramePost ((Pipeline.pin pcfgs fun _ => adm m hO) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 1 rfl).trans ((hA c 1).trans (V_main_arg0 m c)),
   (Pipeline.RDat.FramePost.arr_in h c 2 rfl).trans ((hA c 2).trans (V_main_arg1 m c)),
   ((h c).2 main_arg2 (by decide : main_arg2 ∈ Pipeline.restRefs sig spec0)).trans (V_main_arg2 m c),
   ((h c).2 main_arg3 (by decide : main_arg3 ∈ Pipeline.restRefs sig spec0)).trans (V_main_arg3 m c),
   (Pipeline.RDat.FramePost.arr_in h c 3 rfl).trans ((hA c 3).trans (V_main_arg4 m c)),
   ((h c).2 main_arg5 (by decide : main_arg5 ∈ Pipeline.restRefs sig spec0)).trans (V_main_arg5 m c)⟩

end Cert.Kernel.Up

end
-- ==== Proof.Tables.lean ====
module

public import proofs.«01_k».proof.Proof.Setup
public import Idealize.ShloMosaic.Lib.Pipeline.FrameBody
public import Idealize.ShloMosaic.Lib.Claim
public import Idealize.ShloMosaic.Lib.WordCmp
public import Idealize.ShloMosaic.Lib.Routing.Ops
public import Idealize.ShloMosaic.Lib.SortNet.Extract

@[expose] public section

set_option maxRecDepth 16384

noncomputable section

namespace Cert.Kernel.Up

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ)

/-- Which tiles hold a live row, from the offsets and the counts. -/
def liveT (off cnt : IVec S4x20 32) : IVec S40 1 :=
  shapeCast S40 (Host.reduce IntOp.ori
    (andi (andi
      (cmpi .slt (broadcastInDim S4x10x20 ![0, 1, 2] bcast_S4x1x20_S4x10x20_0_1_2 (broadcastInDim S4x1x20 ![0, 2] bcast_S4x20_S4x1x20_0_2 off))
        (broadcastInDim S4x10x20 ![0, 1, 2] bcast_S1x10x1_S4x10x20_0_1_2
          (addi (muli (broadcastInDim S1x10x1 ![1] bcast_S10_S1x10x1_1 (iotaInDim S10 32 0)) (broadcastInDim S1x10x1 ![] bcast_S_S1x10x1 (constantI S_ 32 256#32)))
            (broadcastInDim S1x10x1 ![] bcast_S_S1x10x1 (constantI S_ 32 256#32)))))
      (cmpi .sgt (broadcastInDim S4x10x20 ![0, 1, 2] bcast_S4x1x20_S4x10x20_0_1_2 (broadcastInDim S4x1x20 ![0, 2] bcast_S4x20_S4x1x20_0_2 (addi off cnt)))
        (broadcastInDim S4x10x20 ![0, 1, 2] bcast_S1x10x1_S4x10x20_0_1_2
          (muli (broadcastInDim S1x10x1 ![1] bcast_S10_S1x10x1_1 (iotaInDim S10 32 0)) (broadcastInDim S1x10x1 ![] bcast_S_S1x10x1 (constantI S_ 32 256#32))))))
      (broadcastInDim S4x10x20 ![0, 1, 2] bcast_S4x1x20_S4x10x20_0_1_2 (broadcastInDim S4x1x20 ![0, 2] bcast_S4x20_S4x1x20_0_2
        (cmpi .sgt cnt (broadcastInDim S4x20 ![] bcast_S_S4x20 (constantI S_ 32 0#32))))))
    (constantI S_ 1 0#1) reducesTo_S4x10x20_S4x10_d2 h_S_) shapeCasts_S4x10_S40

/-- The last live tile up to each tile (tile 0 where there is none). -/
def lastT (l : IVec S40 1) : IVec S40 32 :=
  maxsi (Host.reduceWindow IntOp.maxsi ![40] ![1] ![39] ![0] (select l (iotaInDim S40 32 0) (broadcastInDim S40 ![] bcast_S_S40 (constantI S_ 32 4294967295#32)))
      (broadcastInDim S_ ![] bcast_S_S_ (constantI S_ 32 2147483648#32)) reduceWindows_S40_S40_w40s1p39_0 h_S_)
    (broadcastInDim S40 ![] bcast_S_S40 (constantI S_ 32 0#32))

/-- The sign of a word. -/
def sgnW (k : BitVec 32) : BitVec 32 := if k = 0 then 0 else if k.msb then -1 else 1

/-- Floor division by ten, word by word, and the remainder. -/
def teW (k : BitVec 32) : BitVec 32 :=
  Scalar.select (IntOp.andi (IntOp.cmpi .ne (sgnW k) (sgnW 10#32)) (IntOp.cmpi .ne (IntOp.remsi .host k 10#32) 0#32))
    (IntOp.subi (IntOp.divsi .host k 10#32) 1#32) (IntOp.divsi .host k 10#32)
def ttW (k : BitVec 32) : BitVec 32 :=
  Scalar.select (IntOp.andi (IntOp.cmpi .ne (IntOp.cmpi .slt (IntOp.remsi .host k 10#32) 0#32) (IntOp.cmpi .slt 10#32 0#32)) (IntOp.cmpi .ne (IntOp.remsi .host k 10#32) 0#32))
    (IntOp.addi (IntOp.remsi .host k 10#32) 10#32) (IntOp.remsi .host k 10#32)

/-- Floor division by ten, and its remainder, as the host states them. -/
def teT (k : IVec S40 32) (d : IVec S_ 32) : IVec S40 32 :=
  select (andi (cmpi .ne (signi k) (broadcastInDim S40 ![] bcast_S_S40 (signi d))) (cmpi .ne (Host.remsi k (broadcastInDim S40 ![] bcast_S_S40 d)) (broadcastInDim S40 ![] bcast_S_S40 (constantI S_ 32 0#32))))
    (subi (Host.divsi k (broadcastInDim S40 ![] bcast_S_S40 d)) (broadcastInDim S40 ![] bcast_S_S40 (constantI S_ 32 1#32))) (Host.divsi k (broadcastInDim S40 ![] bcast_S_S40 d))
def ttT (k : IVec S40 32) (d : IVec S_ 32) : IVec S40 32 :=
  let e := select (cmpi .eq d (constantI S_ 32 0#32)) (constantI S_ 32 1#32) d
  let r := Host.remsi k (broadcastInDim S40 ![] bcast_S_S40 e)
  select (andi (cmpi .ne (cmpi .slt r (broadcastInDim S40 ![] bcast_S_S40 (constantI S_ 32 0#32))) (broadcastInDim S40 ![] bcast_S_S40 (cmpi .slt e (constantI S_ 32 0#32)))) (cmpi .ne r (broadcastInDim S40 ![] bcast_S_S40 (constantI S_ 32 0#32))))
    (addi r (broadcastInDim S40 ![] bcast_S_S40 e)) r

theorem s0_v22 (v : Valuation τ sig (Elt F)) : StableHlo.after (hostOps0 (F := F)) v (Proc.devRef .tc main_v22) = liveT (v (Proc.devRef .tc main_arg2)) (v (Proc.devRef .tc main_arg3)) := by
  unfold hostOps0; after_results; try rfl
theorem s0_v23 (v : Valuation τ sig (Elt F)) : StableHlo.after (hostOps0 (F := F)) v (Proc.devRef .tc main_v23) = iotaInDim S40 32 0 := by
  unfold hostOps0; after_results; try rfl
theorem s0_c_3 (v : Valuation τ sig (Elt F)) : StableHlo.after (hostOps0 (F := F)) v (Proc.devRef .tc main_c_3) = constantI S_ 32 4294967295#32 := by
  unfold hostOps0; after_results; try rfl
theorem s1_v24 (v : Valuation τ sig (Elt F)) : StableHlo.after (hostOps0_1 (F := F)) v (Proc.devRef .tc main_v24) = select (v (Proc.devRef .tc main_v22)) (v (Proc.devRef .tc main_v23)) (broadcastInDim S40 ![] bcast_S_S40 (v (Proc.devRef .tc main_c_3))) := by
  unfold hostOps0_1; after_results; try rfl
theorem s2_v25 (v : Valuation τ sig (Elt F)) : StableHlo.after (hostOps0_2 (F := F)) v (Proc.devRef .tc main_v25) = Host.reduceWindow IntOp.maxsi ![40] ![1] ![39] ![0] (v (Proc.devRef .tc main_v24)) (broadcastInDim S_ ![] bcast_S_S_ (constantI S_ 32 2147483648#32)) reduceWindows_S40_S40_w40s1p39_0 h_S_ := by
  unfold hostOps0_2; after_results; simp only [StableHlo.TRef.ofBuf_toBuf]
  have h1 : ∀ z : IVec S40 32, (StableHlo.TRef.of main_v25).toBuf (Val := Elt F) z = z := fun _ => rfl
  have h2 : ∀ z : IVec S40 32, (StableHlo.TRef.of main_v24).ofBuf (Val := Elt F) z = z := fun _ => rfl
  refine (h1 _).trans ?_
  rw [h2]
theorem s3_v27 (v : Valuation τ sig (Elt F)) : StableHlo.after (hostOps0_3 (F := F)) v (Proc.devRef .tc main_v27) = maxsi (v (Proc.devRef .tc main_v25)) (broadcastInDim S40 ![] bcast_S_S40 (constantI S_ 32 0#32)) := by
  unfold hostOps0_3; after_results; try rfl
theorem s3_c_5 (v : Valuation τ sig (Elt F)) : StableHlo.after (hostOps0_3 (F := F)) v (Proc.devRef .tc main_c_5) = constantI S_ 32 10#32 := by
  unfold hostOps0_3; after_results; try rfl
theorem s4_v28 (v : Valuation τ sig (Elt F)) : StableHlo.after (hostOps0_4 (F := F)) v (Proc.devRef .tc main_v28) = teT (v (Proc.devRef .tc main_v27)) (v (Proc.devRef .tc main_c_5)) := by
  unfold hostOps0_4; after_results; simp only [StableHlo.TRef.ofBuf_toBuf]; rfl
theorem s5_c_6 (v : Valuation τ sig (Elt F)) : StableHlo.after (hostOps0_5 (F := F)) v (Proc.devRef .tc main_c_6) = constantI S_ 32 10#32 := by
  unfold hostOps0_5; after_results; try rfl
theorem s6_v29 (v : Valuation τ sig (Elt F)) : StableHlo.after (hostOps0_6 (F := F)) v (Proc.devRef .tc main_v29) = ttT (v (Proc.devRef .tc main_v27)) (v (Proc.devRef .tc main_c_6)) := by
  unfold hostOps0_6; after_results; simp only [StableHlo.TRef.ofBuf_toBuf]; rfl
theorem s7_v30 (v : Valuation τ sig (Elt F)) : StableHlo.after (hostOps0_7 (F := F)) v (Proc.devRef .tc main_v30) = extui 32 (v (Proc.devRef .tc main_v22)) natLt_1_32 := by
  unfold hostOps0_7; after_results; try rfl
theorem s7_v31 (v : Valuation τ sig (Elt F)) : StableHlo.after (hostOps0_7 (F := F)) v (Proc.devRef .tc main_v31) = shapeCast S80 (v (Proc.devRef .tc main_arg2)) shapeCasts_S4x20_S80 := by
  unfold hostOps0_7; after_results; try rfl
theorem s7_v32 (v : Valuation τ sig (Elt F)) : StableHlo.after (hostOps0_7 (F := F)) v (Proc.devRef .tc main_v32) = shapeCast S80 (v (Proc.devRef .tc main_arg3)) shapeCasts_S4x20_S80 := by
  unfold hostOps0_7; after_results; try rfl
theorem s7_v33 (v : Valuation τ sig (Elt F)) : StableHlo.after (hostOps0_7 (F := F)) v (Proc.devRef .tc main_v33) = shapeCast S7168 (v (Proc.devRef .tc main_arg5)) shapeCasts_S4x32x56_S7168 := by
  unfold hostOps0_7; after_results; try rfl
theorem s1_v22 (v : Valuation τ sig (Elt F)) : StableHlo.after (hostOps0_1 (F := F)) v (Proc.devRef .tc main_v22) = v (Proc.devRef .tc main_v22) := by
  unfold hostOps0_1; after_results; try rfl
theorem s2_v22 (v : Valuation τ sig (Elt F)) : StableHlo.after (hostOps0_2 (F := F)) v (Proc.devRef .tc main_v22) = v (Proc.devRef .tc main_v22) := by
  unfold hostOps0_2; after_results; try rfl
theorem s3_v22 (v : Valuation τ sig (Elt F)) : StableHlo.after (hostOps0_3 (F := F)) v (Proc.devRef .tc main_v22) = v (Proc.devRef .tc main_v22) := by
  unfold hostOps0_3; after_results; try rfl
theorem s4_v22 (v : Valuation τ sig (Elt F)) : StableHlo.after (hostOps0_4 (F := F)) v (Proc.devRef .tc main_v22) = v (Proc.devRef .tc main_v22) := by
  unfold hostOps0_4; after_results; try rfl
theorem s5_v22 (v : Valuation τ sig (Elt F)) : StableHlo.after (hostOps0_5 (F := F)) v (Proc.devRef .tc main_v22) = v (Proc.devRef .tc main_v22) := by
  unfold hostOps0_5; after_results; try rfl
theorem s6_v22 (v : Valuation τ sig (Elt F)) : StableHlo.after (hostOps0_6 (F := F)) v (Proc.devRef .tc main_v22) = v (Proc.devRef .tc main_v22) := by
  unfold hostOps0_6; after_results; try rfl
theorem s0_arg2 (v : Valuation τ sig (Elt F)) : StableHlo.after (hostOps0 (F := F)) v (Proc.devRef .tc main_arg2) = v (Proc.devRef .tc main_arg2) := by
  unfold hostOps0; after_results; try rfl
theorem s0_arg3 (v : Valuation τ sig (Elt F)) : StableHlo.after (hostOps0 (F := F)) v (Proc.devRef .tc main_arg3) = v (Proc.devRef .tc main_arg3) := by
  unfold hostOps0; after_results; try rfl
theorem s0_arg5 (v : Valuation τ sig (Elt F)) : StableHlo.after (hostOps0 (F := F)) v (Proc.devRef .tc main_arg5) = v (Proc.devRef .tc main_arg5) := by
  unfold hostOps0; after_results; try rfl
theorem s1_arg2 (v : Valuation τ sig (Elt F)) : StableHlo.after (hostOps0_1 (F := F)) v (Proc.devRef .tc main_arg2) = v (Proc.devRef .tc main_arg2) := by
  unfold hostOps0_1; after_results; try rfl
theorem s1_arg3 (v : Valuation τ sig (Elt F)) : StableHlo.after (hostOps0_1 (F := F)) v (Proc.devRef .tc main_arg3) = v (Proc.devRef .tc main_arg3) := by
  unfold hostOps0_1; after_results; try rfl
theorem s1_arg5 (v : Valuation τ sig (Elt F)) : StableHlo.after (hostOps0_1 (F := F)) v (Proc.devRef .tc main_arg5) = v (Proc.devRef .tc main_arg5) := by
  unfold hostOps0_1; after_results; try rfl
theorem s2_arg2 (v : Valuation τ sig (Elt F)) : StableHlo.after (hostOps0_2 (F := F)) v (Proc.devRef .tc main_arg2) = v (Proc.devRef .tc main_arg2) := by
  unfold hostOps0_2; after_results; try rfl
theorem s2_arg3 (v : Valuation τ sig (Elt F)) : StableHlo.after (hostOps0_2 (F := F)) v (Proc.devRef .tc main_arg3) = v (Proc.devRef .tc main_arg3) := by
  unfold hostOps0_2; after_results; try rfl
theorem s2_arg5 (v : Valuation τ sig (Elt F)) : StableHlo.after (hostOps0_2 (F := F)) v (Proc.devRef .tc main_arg5) = v (Proc.devRef .tc main_arg5) := by
  unfold hostOps0_2; after_results; try rfl
theorem s3_arg2 (v : Valuation τ sig (Elt F)) : StableHlo.after (hostOps0_3 (F := F)) v (Proc.devRef .tc main_arg2) = v (Proc.devRef .tc main_arg2) := by
  unfold hostOps0_3; after_results; try rfl
theorem s3_arg3 (v : Valuation τ sig (Elt F)) : StableHlo.after (hostOps0_3 (F := F)) v (Proc.devRef .tc main_arg3) = v (Proc.devRef .tc main_arg3) := by
  unfold hostOps0_3; after_results; try rfl
theorem s3_arg5 (v : Valuation τ sig (Elt F)) : StableHlo.after (hostOps0_3 (F := F)) v (Proc.devRef .tc main_arg5) = v (Proc.devRef .tc main_arg5) := by
  unfold hostOps0_3; after_results; try rfl
theorem s4_arg2 (v : Valuation τ sig (Elt F)) : StableHlo.after (hostOps0_4 (F := F)) v (Proc.devRef .tc main_arg2) = v (Proc.devRef .tc main_arg2) := by
  unfold hostOps0_4; after_results; try rfl
theorem s4_arg3 (v : Valuation τ sig (Elt F)) : StableHlo.after (hostOps0_4 (F := F)) v (Proc.devRef .tc main_arg3) = v (Proc.devRef .tc main_arg3) := by
  unfold hostOps0_4; after_results; try rfl
theorem s4_arg5 (v : Valuation τ sig (Elt F)) : StableHlo.after (hostOps0_4 (F := F)) v (Proc.devRef .tc main_arg5) = v (Proc.devRef .tc main_arg5) := by
  unfold hostOps0_4; after_results; try rfl
theorem s5_arg2 (v : Valuation τ sig (Elt F)) : StableHlo.after (hostOps0_5 (F := F)) v (Proc.devRef .tc main_arg2) = v (Proc.devRef .tc main_arg2) := by
  unfold hostOps0_5; after_results; try rfl
theorem s5_arg3 (v : Valuation τ sig (Elt F)) : StableHlo.after (hostOps0_5 (F := F)) v (Proc.devRef .tc main_arg3) = v (Proc.devRef .tc main_arg3) := by
  unfold hostOps0_5; after_results; try rfl
theorem s5_arg5 (v : Valuation τ sig (Elt F)) : StableHlo.after (hostOps0_5 (F := F)) v (Proc.devRef .tc main_arg5) = v (Proc.devRef .tc main_arg5) := by
  unfold hostOps0_5; after_results; try rfl
theorem s6_arg2 (v : Valuation τ sig (Elt F)) : StableHlo.after (hostOps0_6 (F := F)) v (Proc.devRef .tc main_arg2) = v (Proc.devRef .tc main_arg2) := by
  unfold hostOps0_6; after_results; try rfl
theorem s6_arg3 (v : Valuation τ sig (Elt F)) : StableHlo.after (hostOps0_6 (F := F)) v (Proc.devRef .tc main_arg3) = v (Proc.devRef .tc main_arg3) := by
  unfold hostOps0_6; after_results; try rfl
theorem s6_arg5 (v : Valuation τ sig (Elt F)) : StableHlo.after (hostOps0_6 (F := F)) v (Proc.devRef .tc main_arg5) = v (Proc.devRef .tc main_arg5) := by
  unfold hostOps0_6; after_results; try rfl
theorem s4_v27 (v : Valuation τ sig (Elt F)) : StableHlo.after (hostOps0_4 (F := F)) v (Proc.devRef .tc main_v27) = v (Proc.devRef .tc main_v27) := by
  unfold hostOps0_4; after_results; try rfl
theorem s5_v27 (v : Valuation τ sig (Elt F)) : StableHlo.after (hostOps0_5 (F := F)) v (Proc.devRef .tc main_v27) = v (Proc.devRef .tc main_v27) := by
  unfold hostOps0_5; after_results; try rfl
theorem s5_v28 (v : Valuation τ sig (Elt F)) : StableHlo.after (hostOps0_5 (F := F)) v (Proc.devRef .tc main_v28) = v (Proc.devRef .tc main_v28) := by
  unfold hostOps0_5; after_results; try rfl
theorem s6_v28 (v : Valuation τ sig (Elt F)) : StableHlo.after (hostOps0_6 (F := F)) v (Proc.devRef .tc main_v28) = v (Proc.devRef .tc main_v28) := by
  unfold hostOps0_6; after_results; try rfl
theorem s7_v28 (v : Valuation τ sig (Elt F)) : StableHlo.after (hostOps0_7 (F := F)) v (Proc.devRef .tc main_v28) = v (Proc.devRef .tc main_v28) := by
  unfold hostOps0_7; after_results; try rfl
theorem s7_v29 (v : Valuation τ sig (Elt F)) : StableHlo.after (hostOps0_7 (F := F)) v (Proc.devRef .tc main_v29) = v (Proc.devRef .tc main_v29) := by
  unfold hostOps0_7; after_results; try rfl

theorem after_append (l₁ l₂ : List (HloOp τ sig (Elt F))) (v : Valuation τ sig (Elt F)) :
    StableHlo.after (l₁ ++ l₂) v = StableHlo.after l₂ (StableHlo.after l₁ v) := by
  induction l₁ generalizing v with
  | nil => rfl
  | cons a l ih => exact ih _

theorem V_stages (b : Ref sig .tc) : V m 0 b = StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (0, b))))))))) (Proc.devRef .tc b) := by
  unfold V host
  rw [List.flatten_cons, List.flatten_cons, List.flatten_cons, List.flatten_cons, List.flatten_cons, List.flatten_cons, List.flatten_cons, List.flatten_cons, List.flatten_nil, List.append_nil,
    after_append, after_append, after_append, after_append, after_append, after_append, after_append]

/-- The offsets and the counts at launch. -/
abbrev offM : IVec S4x20 32 := m (0, Proc.devRef .tc main_arg2)
abbrev cntM : IVec S4x20 32 := m (0, Proc.devRef .tc main_arg3)

theorem tl_eq : V m 0 main_v30 = extui 32 (liveT (offM m) (cntM m)) natLt_1_32 := by
  rw [V_stages]
  rw [s7_v30, s6_v22, s5_v22, s4_v22, s3_v22, s2_v22, s1_v22, s0_v22]
theorem te_eq : V m 0 main_v28 = fun i => teW (lastT (liveT (offM m) (cntM m)) i) := by
  rw [V_stages]
  rw [s7_v28, s6_v28, s5_v28, s4_v28, s3_v27, s3_c_5, s2_v25, s1_v24, s0_v22, s0_v23, s0_c_3]
  rfl
theorem tt_eq : V m 0 main_v29 = fun i => ttW (lastT (liveT (offM m) (cntM m)) i) := by
  rw [V_stages]
  rw [s7_v29, s6_v29, s5_v27, s5_c_6, s4_v27, s3_v27, s2_v25, s1_v24, s0_v22, s0_v23, s0_c_3]
  rfl
theorem off_eq : V m 0 main_v31 = shapeCast S80 (offM m) shapeCasts_S4x20_S80 := by
  rw [V_stages]
  rw [s7_v31, s6_arg2, s5_arg2, s4_arg2, s3_arg2, s2_arg2, s1_arg2, s0_arg2]
theorem cnt_eq : V m 0 main_v32 = shapeCast S80 (cntM m) shapeCasts_S4x20_S80 := by
  rw [V_stages]
  rw [s7_v32, s6_arg3, s5_arg3, s4_arg3, s3_arg3, s2_arg3, s1_arg3, s0_arg3]
theorem s13_eq : V m 0 main_v33 = shapeCast S7168 (m (0, Proc.devRef .tc main_arg5)) shapeCasts_S4x32x56_S7168 := by
  rw [V_stages]
  rw [s7_v33, s6_arg5, s5_arg5, s4_arg5, s3_arg5, s2_arg5, s1_arg5, s0_arg5]

end Cert.Kernel.Up

end
-- ==== Proof.Ok.lean ====
module

public import proofs.«01_k».proof.Proof.Tables
public import Idealize.ShloMosaic.Lib.Pipeline.FrameBody
public import Idealize.ShloMosaic.Lib.Claim
public import Idealize.ShloMosaic.Lib.WordCmp
public import Idealize.ShloMosaic.Lib.Routing.Ops
public import Idealize.ShloMosaic.Lib.SortNet.Extract

@[expose] public section

set_option maxRecDepth 16384

noncomputable section

namespace Cert.Kernel.Up

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ)

/-! ## The running maximum -/

theorem foldl_maxsi_le {ι : Type} (g : ι → BitVec 32) (B : Int) (l : List ι) (z : BitVec 32) (hz : z.toInt ≤ B) (hg : ∀ n ∈ l, (g n).toInt ≤ B) :
    (l.foldl (fun r n => IntOp.maxsi r (g n)) z).toInt ≤ B := by
  induction l generalizing z with
  | nil => exact hz
  | cons a l ih =>
    refine ih _ ?_ fun n hn => hg n (List.mem_cons_of_mem _ hn)
    rw [SortNet.toInt_maxsi]
    exact max_le hz (hg a List.mem_cons_self)

theorem le_foldl_maxsi {ι : Type} (g : ι → BitVec 32) (l : List ι) (z : BitVec 32) :
    z.toInt ≤ (l.foldl (fun r n => IntOp.maxsi r (g n)) z).toInt ∧ ∀ n ∈ l, (g n).toInt ≤ (l.foldl (fun r n => IntOp.maxsi r (g n)) z).toInt := by
  induction l generalizing z with
  | nil => exact ⟨le_refl _, fun _ h => absurd h List.not_mem_nil⟩
  | cons a l ih =>
    obtain ⟨h1, h2⟩ := ih (IntOp.maxsi z (g a))
    rw [SortNet.toInt_maxsi] at h1
    refine ⟨le_trans (le_max_left _ _) h1, fun n hn => ?_⟩
    rcases List.mem_cons.mp hn with rfl | hn
    · exact le_trans (le_max_right _ _) h1
    · exact h2 n hn

theorem toInt_small (k : Nat) (hk : k < 40) : (BitVec.ofNat 32 k).toInt = k := by
  rw [BitVec.toInt_eq_toNat_cond, BitVec.toNat_ofNat, Nat.mod_eq_of_lt (by omega)]
  rw [if_pos (by omega)]

/-- The candidate a tile offers: its own number where it is live, minus one where it is not. -/
abbrev candT (l : IVec S40 1) : IVec S40 32 := select l (iotaInDim S40 32 0) (broadcastInDim S40 ![] bcast_S_S40 (constantI S_ 32 4294967295#32))

theorem candT_toInt (l : IVec S40 1) (j : S40.Idx) : (candT l j).toInt = if l j = 1#1 then ((j 0).val : Int) else -1 := by
  show (Scalar.select (l j) (BitVec.ofNat 32 (j 0).val) 4294967295#32).toInt = _
  rcases eq_or_ne (l j) 1#1 with h | h
  · rw [if_pos h, h]; exact toInt_small _ (j 0).isLt
  · rw [if_neg h]
    have : l j = 0#1 := by
      generalize l j = b at h ⊢
      revert b; decide
    rw [this]; rfl

theorem lastT_le (l : IVec S40 1) (j : S40.Idx) : (lastT l j).toInt ≤ (j 0).val ∧ 0 ≤ (lastT l j).toInt := by
  have hw : lastT l j = IntOp.maxsi (Host.reduceWindow IntOp.maxsi ![40] ![1] ![39] ![0] (candT l)
      (broadcastInDim S_ ![] bcast_S_S_ (constantI S_ 32 2147483648#32)) reduceWindows_S40_S40_w40s1p39_0 h_S_ j) 0#32 := rfl
  rw [hw, SortNet.toInt_maxsi]
  refine ⟨max_le ?_ (by simp), le_max_right _ _⟩
  unfold Host.reduceWindow
  have hv : (2147483648#32 : BitVec 32).toInt ≤ ((j 0).val : Int) := le_trans (show (2147483648#32 : BitVec 32).toInt ≤ 0 by decide) (by omega)
  refine foldl_maxsi_le _ _ _ _ hv fun n _ => ?_
  dsimp only
  split
  · next hin =>
    rw [candT_toInt]
    have hn : ((⟨1, ![40]⟩ : Shape).rowMajor.symm n 0).val < 40 := ((⟨1, ![40]⟩ : Shape).rowMajor.symm n 0).isLt
    split
    · refine Int.ofNat_le.mpr ?_
      show (j 0).val * 1 + ((⟨1, ![40]⟩ : Shape).rowMajor.symm n 0).val - 39 ≤ (j 0).val
      omega
    · omega
  · exact hv

theorem lastT_ge (l : IVec S40 1) (j : S40.Idx) (hl : l j = 1#1) : ((j 0).val : Int) ≤ (lastT l j).toInt := by
  have hw : lastT l j = IntOp.maxsi (Host.reduceWindow IntOp.maxsi ![40] ![1] ![39] ![0] (candT l)
      (broadcastInDim S_ ![] bcast_S_S_ (constantI S_ 32 2147483648#32)) reduceWindows_S40_S40_w40s1p39_0 h_S_ j) 0#32 := rfl
  rw [hw, SortNet.toInt_maxsi]
  refine le_trans ?_ (le_max_left _ _)
  unfold Host.reduceWindow
  let q : (⟨1, ![40]⟩ : Shape).Idx := fun | ⟨0, _⟩ => (⟨39, by decide⟩ : Fin 40)
  let nq := (⟨1, ![40]⟩ : Shape).rowMajor q
  have hq : (⟨1, ![40]⟩ : Shape).rowMajor.symm nq = q := Equiv.symm_apply_apply _ _
  refine le_trans ?_ ((le_foldl_maxsi _ _ _).2 nq (List.mem_finRange _))
  dsimp only
  rw [dif_pos (fun a => by
    match a with
    | ⟨0, _⟩ =>
      show 39 ≤ (j 0).val * 1 + ((⟨1, ![40]⟩ : Shape).rowMajor.symm nq 0).val ∧ (j 0).val * 1 + ((⟨1, ![40]⟩ : Shape).rowMajor.symm nq 0).val - 39 < 40
      rw [hq]
      have : (q 0).val = 39 := rfl
      have := (j 0).isLt
      have h40 : S40.size 0 = 40 := rfl
      omega)]
  have e : (fun a => (⟨(j (a.cast rfl)).val * (![1] : Fin 1 → Nat) a + ((⟨1, ![40]⟩ : Shape).rowMajor.symm nq a).val - (![39] : Fin 1 → Nat) a, by
    match a with
    | ⟨0, _⟩ =>
      show (j 0).val * 1 + ((⟨1, ![40]⟩ : Shape).rowMajor.symm nq 0).val - 39 < 40
      rw [hq]
      have : (q 0).val = 39 := rfl
      have := (j 0).isLt
      have h40 : S40.size 0 = 40 := rfl
      omega⟩ : Fin (S40.size a))) = j := funext fun a => by
    match a with
    | ⟨0, _⟩ =>
      refine Fin.ext ?_
      show (j 0).val * 1 + ((⟨1, ![40]⟩ : Shape).rowMajor.symm nq 0).val - 39 = (j 0).val
      rw [hq]
      show (j 0).val * 1 + 39 - 39 = (j 0).val
      omega
  refine le_of_eq (Eq.trans ?_ (congrArg BitVec.toInt (congrArg (candT l) e)).symm)
  rw [candT_toInt, if_pos hl]

theorem lastT_lt (l : IVec S40 1) (j : S40.Idx) : (lastT l j).toNat < 40 := by
  obtain ⟨h1, h2⟩ := lastT_le l j
  have := (j 0).isLt
  have h40 : S40.size 0 = 40 := rfl
  rw [BitVec.toInt_eq_toNat_cond] at h1 h2
  split at h1 <;> omega

/-- At a live tile the last live tile is the tile itself. -/
theorem lastT_live (l : IVec S40 1) (j : S40.Idx) (hl : l j = 1#1) : lastT l j = BitVec.ofNat 32 (j 0).val :=
  BitVec.eq_of_toInt_eq ((le_antisymm (lastT_le l j).1 (lastT_ge l j hl)).trans (toInt_small _ (j 0).isLt).symm)

theorem teW_eq : ∀ k : Fin 40, teW (BitVec.ofNat 32 k.val) = BitVec.ofNat 32 (k.val / 10) := by decide +kernel
theorem ttW_eq : ∀ k : Fin 40, ttW (BitVec.ofNat 32 k.val) = BitVec.ofNat 32 (k.val % 10) := by decide +kernel
theorem teW_lt (k : BitVec 32) (h : k.toNat < 40) : (teW k).toNat < 4 := by
  have := teW_eq ⟨k.toNat, h⟩
  rw [show BitVec.ofNat 32 k.toNat = k from BitVec.eq_of_toNat_eq (by simp)] at this
  rw [this, BitVec.toNat_ofNat, Nat.mod_eq_of_lt (by omega)]
  dsimp only; omega
theorem ttW_lt (k : BitVec 32) (h : k.toNat < 40) : (ttW k).toNat < 10 := by
  have := ttW_eq ⟨k.toNat, h⟩
  rw [show BitVec.ofNat 32 k.toNat = k from BitVec.eq_of_toNat_eq (by simp)] at this
  rw [this, BitVec.toNat_ofNat, Nat.mod_eq_of_lt (by omega)]
  dsimp only; omega

/-! ## The index maps stay inside the arrays -/

theorem te_lt (j : S40.Idx) : (tbl m 2 j : BitVec 32).toNat < 4 := by
  rw [show tbl m 2 = _ from te_eq m]
  exact teW_lt _ (lastT_lt _ _)
theorem tt_lt (j : S40.Idx) : (tbl m 3 j : BitVec 32).toNat < 10 := by
  rw [show tbl m 3 = _ from tt_eq m]
  exact ttW_lt _ (lastT_lt _ _)

theorem nSel (b : BitVec 1) (n : BitVec 32) (hn : n.toNat < 8) : (Scalar.select b n 7#32).toNat < 8 := by
  rcases eq_or_ne b 1#1 with h | h
  · rw [h]; exact hn
  · have : b = 0#1 := by revert b; decide
    rw [this]; exact (by decide : (7#32 : BitVec 32).toNat < 8)

theorem n_lt (i : grid0.Coords) : (BitVec.ofNat 32 (i 1).val).toNat < 8 := by
  have : (i 1).val < 8 := (i 1).isLt
  rw [BitVec.toNat_ofNat, Nat.mod_eq_of_lt (by omega)]; exact this

theorem nAdd : ∀ (c : BitVec 32) (n : BitVec 32), n.toNat < 8 → c.toNat ≤ 8 → (Scalar.addi n c).toNat = n.toNat + c.toNat := fun c n h h' => by
  show (n + c).toNat = _
  rw [BitVec.toNat_add, Nat.mod_eq_of_lt (by omega)]

theorem selAdd (b : BitVec 1) (n c : BitVec 32) (hn : n.toNat < 8) (hc : c.toNat ≤ 8) : ((Scalar.addi (Scalar.select b n 7#32) c).toNat + 1) * 256 ≤ 4096 := by
  rw [nAdd _ _ (nSel b n hn) hc]
  have := nSel b n hn
  omega

theorem blkX (ix : Fin 3 → Nat) (a b : Nat) (h : ix = ![a, b, 0]) (ha : a < 4) (hb : (b + 1) * 256 ≤ 2560) :
    ∃ h : (∀ q, (ix q + 1) * S1x256x7168.size q ≤ S4x2560x7168.size q), EltTy.bits .fp8e4m3 = 32 ∨ (Rect.block (s := S4x2560x7168) S1x256x7168.size ix h).WholeWords (EltTy.packing .fp8e4m3) := by
  subst h
  refine ⟨fun q => ?_, .inr (.inl (.inr ⟨(by decide : 2 ≤ 3), rfl, .inl ⟨?_, ?_⟩⟩))⟩
  rotate_left
  · exact Dvd.dvd.mul_left (show EltTy.packing .fp8e4m3 ∣ 256 by decide) _
  · exact (show EltTy.packing .fp8e4m3 ∣ 256 by decide)
  match q with
  | ⟨0, _⟩ => exact (Nat.mul_one (a + 1)).le.trans ha
  | ⟨1, _⟩ => exact hb
  | ⟨2, _⟩ => exact (Nat.one_mul 7168).le
theorem blkS (ix : Fin 3 → Nat) (a b : Nat) (h : ix = ![a, b, 0]) (ha : a < 4) (hb : (b + 1) * 256 ≤ 2560) :
    ∃ h : (∀ q, (ix q + 1) * S1x256x56.size q ≤ S4x2560x56.size q), EltTy.bits .f32 = 32 ∨ (Rect.block (s := S4x2560x56) S1x256x56.size ix h).WholeWords (EltTy.packing .f32) := by
  subst h
  refine ⟨fun q => ?_, .inl rfl⟩
  match q with
  | ⟨0, _⟩ => exact (Nat.mul_one (a + 1)).le.trans ha
  | ⟨1, _⟩ => exact hb
  | ⟨2, _⟩ => exact (Nat.one_mul 56).le
theorem blkW (ix : Fin 3 → Nat) (a b : Nat) (h : ix = ![a, b, 0]) (ha : a < 4) (hb : (b + 1) * 256 ≤ 4096) :
    ∃ h : (∀ q, (ix q + 1) * S1x256x7168.size q ≤ S4x4096x7168.size q), EltTy.bits .fp8e4m3 = 32 ∨ (Rect.block (s := S4x4096x7168) S1x256x7168.size ix h).WholeWords (EltTy.packing .fp8e4m3) := by
  subst h
  refine ⟨fun q => ?_, .inr (.inl (.inr ⟨(by decide : 2 ≤ 3), rfl, .inl ⟨?_, ?_⟩⟩))⟩
  rotate_left
  · exact Dvd.dvd.mul_left (show EltTy.packing .fp8e4m3 ∣ 256 by decide) _
  · exact (show EltTy.packing .fp8e4m3 ∣ 256 by decide)
  match q with
  | ⟨0, _⟩ => exact (Nat.mul_one (a + 1)).le.trans ha
  | ⟨1, _⟩ => exact hb
  | ⟨2, _⟩ => exact (Nat.one_mul 7168).le

/-- The call's index maps, at the tables the host computes, name blocks inside their arrays. -/
theorem ok : Ok m := by
  refine ⟨fun i => blkX _ _ _ rfl (te_lt m _) (Nat.mul_le_mul_right 256 (tt_lt m _)), fun i => blkS _ _ _ rfl (te_lt m _) (Nat.mul_le_mul_right 256 (tt_lt m _)),
    fun i => blkW _ _ _ rfl (te_lt m _) (selAdd _ _ _ (n_lt i) ?_), fun i => blkW _ _ _ rfl (te_lt m _) (selAdd _ _ _ (n_lt i) ?_)⟩ <;> decide

end Cert.Kernel.Up
-- ==== Proof.Frame.lean ====
module

public import proofs.«01_k».proof.Proof.Setup
public import Idealize.ShloMosaic.Lib.Pipeline.FrameBody
public import Idealize.ShloMosaic.Lib.Claim
public import Idealize.ShloMosaic.Lib.WordCmp

@[expose] public section

set_option maxRecDepth 16384

noncomputable section

namespace Cert.Kernel.Up

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ) (ρ : Dev nD → PrngReg)

/-- The two results: nothing of their contents is named here. -/
def forgets : Fin 7 → Bool := fun w => w.val == 5 || w.val == 6

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem after_1 (hO : Ok m) (c : Dev nD) (t : Fin (cfgM m hO).N) : (dats m hO 0 c).after 1 t = iblk m hO c 1 t := by dsimp only [dats]; try rfl
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem after_2 (hO : Ok m) (c : Dev nD) (t : Fin (cfgM m hO).N) : (dats m hO 0 c).after 2 t = iblk m hO c 2 t := by dsimp only [dats]; try rfl
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem after_3 (hO : Ok m) (c : Dev nD) (t : Fin (cfgM m hO).N) : (dats m hO 0 c).after 3 t = iblk m hO c 3 t := by dsimp only [dats]; try rfl
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem after_4 (hO : Ok m) (c : Dev nD) (t : Fin (cfgM m hO).N) : (dats m hO 0 c).after 4 t = iblk m hO c 4 t := by dsimp only [dats]; try rfl
theorem before_4 (hO : Ok m) (c : Dev nD) (t : Fin (cfgM m hO).N) (d) : (dats m hO 0 c).before 4 t d = iblk m hO c 4 t :=
  before_4_of m hO (dats m hO 0 c) (A_eq m hO c 4) (after_4 m hO c) t d

def bodyPre (hO : Ok m) (c : Dev nD) (t : Fin (cfgM m hO).N) : sProp 𝕄 :=
  iprop((dats m hO 0 c).Φ t.castSucc
    ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare d)
    ∗ (∃ d, owns (c : Thread nD τ) (ms6 m hO t) fullShare d))
def bodyPost (hO : Ok m) (c : Dev nD) (t : Fin (cfgM m hO).N) : sProp 𝕄 :=
  iprop((dats m hO 0 c).Φ t.succ
    ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ (∃ d, owns (c : Thread nD τ) (ms5 m hO t) fullShare d)
    ∗ (∃ d, owns (c : Thread nD τ) (ms6 m hO t) fullShare d))

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq, PhiA_eq]
  unfold owns
  iintro ⟨⟨⟨⟨⟨%f14, H14⟩, ⟨%f15, H15⟩⟩, Hg⟩, ⟨H2, H3, H4, H5, H6⟩⟩, Ho, ⟨%d0, ⟨%f7, %hf7, H7⟩⟩, ⟨%d1, ⟨%f8, %hf8, H8⟩⟩, ⟨%d2, ⟨%f9, %hf9, H9⟩⟩, ⟨%d3, ⟨%f10, %hf10, H10⟩⟩, ⟨%d4, ⟨%f11, %hf11, H11⟩⟩, ⟨%d5, ⟨%f12, -, H12⟩⟩, ⟨%d6, ⟨%f13, -, H13⟩⟩⟩
  iapply ((step c (grid0.coords t) mOff (Memref.isWhole_whole _) mCnt (Memref.isWhole_whole _) mTe (Memref.isWhole_whole _) mTt (Memref.isWhole_whole _) mTl (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) mXb (Memref.isWhole_whole _) mW (Memref.isWhole_whole _)
    (tbl m 0) (tbl m 1) (tbl m 4) f7 f8 f9 f10 f11 f12 f13 f14 f15).2 Set.univ _)
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H6, H7, H8, H9, H10, H11, H12, H13, H14, H15⟩
  isplitl [H14 H15 Hg H2 H3 H4 H5 H6]
  · isplitl [H14 H15 Hg]
    · isplitl [H14 H15]
      · isplitl [H14]
        · iexists _; iexact H14
        iexists _; iexact H15
      iexact Hg
    isplitl [H2]; · iexact H2
    isplitl [H3]; · iexact H3
    isplitl [H4]; · iexact H4
    isplitl [H5]; · iexact H5
    iexact H6
  isplitl [Ho]; · iexact Ho
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _, _; isplitr; swap; · iexact H12
    ipureintro; rfl
  iexists _, _; isplitr; swap; · iexact H13
  ipureintro; rfl

theorem body_obligation (hO : Ok m) (c : Dev nD) : BodyObligation (dats (F := F) m hO 0 c) (defs₀ (F := F)) Variants.none () Set.univ forgets := fun t => by
  rw [bigSep_W0, bigSep_W0, defs₀_row m hO]
  exact triple_restated (sound_body m hO c t) rfl .rfl fun _ => .rfl

set_option backward.isDefEq.respectTransparency.types false in
theorem run_quiescent (hO : Ok m) : θ_run defs (onTc (τ := τ) (main (F := F))) (s₀ m ρ) (fun r => (Pipeline.RDat.FramePost ((Pipeline.pin pcfgs fun _ => adm m hO) 0) (fun c => (dats m hO 0 c).toRForget forgets) (V m)) r ∧ r.2.sem = fun _ => 0) :=
  Pipeline.θ_run_frameP_forget_shared (Q' := _) pcfgs (fun _ => adm m hO) (dats m hO) (0 : Fin 1) launch₀0 defs₀ Variants.none forgets m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- Every run ends, its argument arrays unchanged and its counters at zero, once the tables are in range. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨frame_of m hO (fun c => (dats m hO 0 c).toRForget forgets) (A_eq m hO) r h.1, h.2⟩) (run_quiescent m ρ hO)

end Cert.Kernel.Up

end
-- ==== Proof.BodyIdeal.lean ====
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.KernelIdeal.Up

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (URounds (GSem nD τ sig) Unit) ℕ

/-- A memref's buffer on core `c`: its contents, held whole, or held at the readers' half. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev wt (c : Dev nD) {sp : Space} {S : Shape} {e : EltTy} (M : Memref sig .tc sp S e) (f : Bf (F := F) c M) : sProp 𝕄 :=
  M.view.loc (c : Thread nD τ) ↦[M.view.set]{fullShare} f
abbrev tb (c : Dev nD) {sp : Space} {S : Shape} {e : EltTy} (M : Memref sig .tc sp S e) (f : Bf (F := F) c M) : sProp 𝕄 :=
  M.view.loc (c : Thread nD τ) ↦{fullShare.right} f

/-- One grid step: what the two results' blocks and the two scratch arrays hold after it, with the proof that the body
    runs to its end and leaves them there. -/
def step (c : Dev nD) (i : grid0.Coords)
    (M2 : Memref sig .tc .smem S80 .i32) (h2 : M2.IsWhole)
    (M3 : Memref sig .tc .smem S80 .i32) (h3 : M3.IsWhole)
    (M4 : Memref sig .tc .smem S40 .i32) (h4 : M4.IsWhole)
    (M5 : Memref sig .tc .smem S40 .i32) (h5 : M5.IsWhole)
    (M6 : Memref sig .tc .smem S40 .i32) (h6 : M6.IsWhole)
    (M7 : Memref sig .tc .smem S7168 .f32) (h7 : M7.IsWhole)
    (M8 : Memref sig .tc .vmem S1x256x7168 .fp8e4m3) (h8 : M8.IsWhole)
    (M9 : Memref sig .tc .vmem S1x256x56 .f32) (h9 : M9.IsWhole)
    (M10 : Memref sig .tc .vmem S1x256x7168 .fp8e4m3) (h10 : M10.IsWhole)
    (M11 : Memref sig .tc .vmem S1x256x7168 .fp8e4m3) (h11 : M11.IsWhole)
    (M12 : Memref sig .tc .vmem S1x256x256 .fp8e4m3) (h12 : M12.IsWhole)
    (M13 : Memref sig .tc .vmem S1x256x16 .f32) (h13 : M13.IsWhole)
    (M14 : Memref sig .tc .vmem S256x7168 .bf16) (h14 : M14.IsWhole)
    (M15 : Memref sig .tc .vmem S512x7168 .bf16) (h15 : M15.IsWhole)
    (f2 : Bf (F := F) c M2) (f3 : Bf (F := F) c M3) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) :
    { W : Bf (F := F) c M12 × Bf (F := F) c M13 × Bf (F := F) c M14 × Bf (F := F) c M15 //
      ∀ (E : Set ℕ) (Q : PUnit → sProp 𝕄),
        iprop(tb c M2 f2 ∗ tb c M3 f3 ∗ tb c M6 f6 ∗ wt c M7 f7 ∗ wt c M8 f8 ∗ wt c M9 f9 ∗ wt c M10 f10 ∗ wt c M11 f11
          ∗ wt c M12 f12 ∗ wt c M13 f13 ∗ pt c M14 f14 ∗ pt c M15 f15
          ∗ (iprop(tb c M2 f2 ∗ tb c M3 f3 ∗ tb c M6 f6 ∗ wt c M7 f7 ∗ wt c M8 f8 ∗ wt c M9 f9 ∗ wt c M10 f10 ∗ wt c M11 f11
              ∗ wt c M12 W.1 ∗ wt c M13 W.2.1 ∗ pt c M14 W.2.2.1 ∗ pt c M15 W.2.2.2) -∗ Q ⟨⟩))
        ⊢ wp frame (wpE (defs₀ (F := F)) Variants.none c none) E
            (cc0_up i M2 h2 M3 h3 M4 h4 M5 h5 M6 h6 M7 h7 M8 h8 M9 h9 M10 h10 M11 h11 M12 h12 M13 h13 M14 h14 M15 h15) Q } := by
  refine ⟨⟨?_, ?_, ?_, ?_⟩, fun E Q => ?run⟩
  case run =>
    iintro ⟨H2, H3, H6, H7, H8, H9, H10, H11, H12, H13, H14, H15, Hk⟩
    sl_exec_parts!
    sl_step
    iapply Hk
    isplitl [H2]; · iexact H2
    isplitl [H3]; · iexact H3
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.KernelIdeal.Up

end
-- ==== Proof.SetupIdeal.lean ====
module

public import proofs.«01_k».proof.Proof.Gen.KernelIdeal.Launch
public import proofs.«01_k».proof.Proof.BodyIdeal
public import Idealize.ShloMosaic.Lib.Pipeline.FrameBody
public import Idealize.ShloMosaic.Lib.Claim
public import Idealize.ShloMosaic.Lib.WordCmp

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ) (ρ : Dev nD → PrngReg)

/-! ## Up to the call -/

/-- The host operations before the call, stretch by stretch. -/
abbrev host : List (List (HloOp τ sig (Elt F))) :=
  [hostOps0, hostOps0_1, hostOps0_2, hostOps0_3, hostOps0_4, hostOps0_5, hostOps0_6, hostOps0_7]

/-- Core `c`'s buffers when the call starts. -/
def V (c : Dev nD) (b : Ref sig .tc) : Buf (Elt F) ((c : Thread nD τ).loc b) := StableHlo.after host.flatten (fun b => m (c, b)) b

theorem host_sub : (host : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem host_fresh : (host : List (List (HloOp τ sig (Elt F)))).Forall fun ops => ops.Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main host host_sub host_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [host, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables -/

/-- The tables when the call starts (there is one device). -/
def tbl : pre0.Contents (Elt F) := fun j => V m (0 : Dev nD) (pre0.ref j)
theorem V_pre (c : Dev nD) (j : Fin 5) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev mOff : Memref sig .tc .smem S80 .i32 := Memref.whole main_v31
abbrev mCnt : Memref sig .tc .smem S80 .i32 := Memref.whole main_v32
abbrev mTe : Memref sig .tc .smem S40 .i32 := Memref.whole main_v28
abbrev mTt : Memref sig .tc .smem S40 .i32 := Memref.whole main_v29
abbrev mTl : Memref sig .tc .smem S40 .i32 := Memref.whole main_v30
abbrev mXb : Memref sig .tc .vmem S256x7168 .bf16 := Memref.whole cc0_scratch0
abbrev mW : Memref sig .tc .vmem S512x7168 .bf16 := Memref.whole cc0_scratch1

theorem PhiT_eq (c : Dev nD) : (Pipeline.ΦT pre0 (tbl m) c : sProp 𝕄)
    = iprop(tb c mOff (tbl m 0) ∗ tb c mCnt (tbl m 1) ∗ tb c mTe (tbl m 2) ∗ tb c mTt (tbl m 3) ∗ tb c mTl (tbl m 4)) := by
  unfold Pipeline.ΦT Pipeline.prefHeld
  exact (bigSep_univ_eq_bigSepL [(0 : Fin 5), (1 : Fin 5), (2 : Fin 5), (3 : Fin 5), (4 : Fin 5)] (by decide) (by decide) _).trans rfl

theorem PhiA_eq (c : Dev nD) : (Pipeline.ΦA spec0 c : sProp 𝕄)
    = iprop(((∃ f, pt c mXb f) ∗ (∃ f, pt c mW f)) ∗ (∃ r, prngReg c r)) := by
  unfold Pipeline.ΦA; rw [scopedRest0_eq]

/-! ## The windows -/

/-- A window's block at point `t`, off its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .smem S7168 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x256x7168 .fp8e4m3 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x256x56 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x256x7168 .fp8e4m3 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x256x7168 .fp8e4m3 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x256x256 .fp8e4m3 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x256x16 .f32 := spec0_6.stage ((cfgM m hO).slots t 6)
abbrev hs6 (hO : Ok m) (t : Fin (cfgM m hO).N) : (ms6 m hO t).IsWhole := hstage0_6 (((cfgM m hO).slots t 6).cast nbuf0_6)

/-- The body at point `t` on what the pipeline hands it. -/
abbrev bodyAt (hO : Ok m) (t : Fin (cfgM m hO).N) : Prog (TpuEff nD τ sig (Elt F) Λ₀ .tc) PUnit :=
  cc0_up (grid0.coords t) mOff (Memref.isWhole_whole _) mCnt (Memref.isWhole_whole _) mTe (Memref.isWhole_whole _) mTt (Memref.isWhole_whole _) mTl (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) mXb (Memref.isWhole_whole _) mW (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w)) (r : PUnit × MemSt nD τ sig (Elt F))
    (h : Pipeline.RDat.FramePost ((Pipeline.pin pcfgs fun _ => adm m hO) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 1 rfl).trans ((hA c 1).trans (V_main_arg0 m c)),
   (Pipeline.RDat.FramePost.arr_in h c 2 rfl).trans ((hA c 2).trans (V_main_arg1 m c)),
   ((h c).2 main_arg2 (by decide : main_arg2 ∈ Pipeline.restRefs sig spec0)).trans (V_main_arg2 m c),
   ((h c).2 main_arg3 (by decide : main_arg3 ∈ Pipeline.restRefs sig spec0)).trans (V_main_arg3 m c),
   (Pipeline.RDat.FramePost.arr_in h c 3 rfl).trans ((hA c 3).trans (V_main_arg4 m c)),
   ((h c).2 main_arg5 (by decide : main_arg5 ∈ Pipeline.restRefs sig spec0)).trans (V_main_arg5 m c)⟩

end Cert.KernelIdeal.Up

end
-- ==== Proof.FrameIdeal.lean ====
module

public import proofs.«01_k».proof.Proof.SetupIdeal
public import Idealize.ShloMosaic.Lib.Pipeline.FrameBody
public import Idealize.ShloMosaic.Lib.Claim
public import Idealize.ShloMosaic.Lib.WordCmp

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ) (ρ : Dev nD → PrngReg)

/-- The two results: nothing of their contents is named here. -/
def forgets : Fin 7 → Bool := fun w => w.val == 5 || w.val == 6

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem after_1 (hO : Ok m) (c : Dev nD) (t : Fin (cfgM m hO).N) : (dats m hO 0 c).after 1 t = iblk m hO c 1 t := by dsimp only [dats]; try rfl
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem after_2 (hO : Ok m) (c : Dev nD) (t : Fin (cfgM m hO).N) : (dats m hO 0 c).after 2 t = iblk m hO c 2 t := by dsimp only [dats]; try rfl
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem after_3 (hO : Ok m) (c : Dev nD) (t : Fin (cfgM m hO).N) : (dats m hO 0 c).after 3 t = iblk m hO c 3 t := by dsimp only [dats]; try rfl
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem after_4 (hO : Ok m) (c : Dev nD) (t : Fin (cfgM m hO).N) : (dats m hO 0 c).after 4 t = iblk m hO c 4 t := by dsimp only [dats]; try rfl
theorem before_4 (hO : Ok m) (c : Dev nD) (t : Fin (cfgM m hO).N) (d) : (dats m hO 0 c).before 4 t d = iblk m hO c 4 t :=
  before_4_of m hO (dats m hO 0 c) (A_eq m hO c 4) (after_4 m hO c) t d

def bodyPre (hO : Ok m) (c : Dev nD) (t : Fin (cfgM m hO).N) : sProp 𝕄 :=
  iprop((dats m hO 0 c).Φ t.castSucc
    ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare d)
    ∗ (∃ d, owns (c : Thread nD τ) (ms6 m hO t) fullShare d))
def bodyPost (hO : Ok m) (c : Dev nD) (t : Fin (cfgM m hO).N) : sProp 𝕄 :=
  iprop((dats m hO 0 c).Φ t.succ
    ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ (∃ d, owns (c : Thread nD τ) (ms5 m hO t) fullShare d)
    ∗ (∃ d, owns (c : Thread nD τ) (ms6 m hO t) fullShare d))

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, PhiT_eq, PhiA_eq]
  unfold owns
  iintro ⟨⟨⟨⟨⟨%f14, H14⟩, ⟨%f15, H15⟩⟩, Hg⟩, ⟨H2, H3, H4, H5, H6⟩⟩, Ho, ⟨%d0, ⟨%f7, %hf7, H7⟩⟩, ⟨%d1, ⟨%f8, %hf8, H8⟩⟩, ⟨%d2, ⟨%f9, %hf9, H9⟩⟩, ⟨%d3, ⟨%f10, %hf10, H10⟩⟩, ⟨%d4, ⟨%f11, %hf11, H11⟩⟩, ⟨%d5, ⟨%f12, -, H12⟩⟩, ⟨%d6, ⟨%f13, -, H13⟩⟩⟩
  iapply ((step c (grid0.coords t) mOff (Memref.isWhole_whole _) mCnt (Memref.isWhole_whole _) mTe (Memref.isWhole_whole _) mTt (Memref.isWhole_whole _) mTl (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) mXb (Memref.isWhole_whole _) mW (Memref.isWhole_whole _)
    (tbl m 0) (tbl m 1) (tbl m 4) f7 f8 f9 f10 f11 f12 f13 f14 f15).2 Set.univ _)
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H6, H7, H8, H9, H10, H11, H12, H13, H14, H15⟩
  isplitl [H14 H15 Hg H2 H3 H4 H5 H6]
  · isplitl [H14 H15 Hg]
    · isplitl [H14 H15]
      · isplitl [H14]
        · iexists _; iexact H14
        iexists _; iexact H15
      iexact Hg
    isplitl [H2]; · iexact H2
    isplitl [H3]; · iexact H3
    isplitl [H4]; · iexact H4
    isplitl [H5]; · iexact H5
    iexact H6
  isplitl [Ho]; · iexact Ho
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _, _; isplitr; swap; · iexact H12
    ipureintro; rfl
  iexists _, _; isplitr; swap; · iexact H13
  ipureintro; rfl

theorem body_obligation (hO : Ok m) (c : Dev nD) : BodyObligation (dats (F := F) m hO 0 c) (defs₀ (F := F)) Variants.none () Set.univ forgets := fun t => by
  rw [bigSep_W0, bigSep_W0, defs₀_row m hO]
  exact triple_restated (sound_body m hO c t) rfl .rfl fun _ => .rfl

set_option backward.isDefEq.respectTransparency.types false in
theorem run_quiescent (hO : Ok m) : θ_run defs (onTc (τ := τ) (main (F := F))) (s₀ m ρ) (fun r => (Pipeline.RDat.FramePost ((Pipeline.pin pcfgs fun _ => adm m hO) 0) (fun c => (dats m hO 0 c).toRForget forgets) (V m)) r ∧ r.2.sem = fun _ => 0) :=
  Pipeline.θ_run_frameP_forget_shared (Q' := _) pcfgs (fun _ => adm m hO) (dats m hO) (0 : Fin 1) launch₀0 defs₀ Variants.none forgets m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- Every run ends, its argument arrays unchanged and its counters at zero, once the tables are in range. -/
theorem frame_of_ok (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨frame_of m hO (fun c => (dats m hO 0 c).toRForget forgets) (A_eq m hO) r h.1, h.2⟩) (run_quiescent m ρ hO)

end Cert.KernelIdeal.Up

end
-- ==== Proof.Offsets.lean ====
module

public import proofs.«01_k».proof.Proof.Gen.KernelIdeal
public import Idealize.ShloMosaic.Lib.Pointwise

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The words the kernel computes its scalar positions with, in closed form. -/

/-- The expert of row tile `k`, as the kernel computes it: the floor of `k / 10`. -/
def expertW (arg0 : BitVec 32) : BitVec 32 :=
  Scalar.select (Scalar.andi
    (Scalar.cmpi .ne (Scalar.subi (Scalar.extui (Scalar.cmpi .sgt arg0 0#32)) (Scalar.extui (Scalar.cmpi .slt arg0 0#32)))
      (Scalar.subi (Scalar.extui (Scalar.cmpi .sgt 10#32 0#32)) (Scalar.extui (Scalar.cmpi .slt 10#32 0#32))))
    (Scalar.cmpi .ne (Scalar.remsi arg0 10#32) 0#32))
    (Scalar.subi (Scalar.divsi arg0 10#32) 1#32) (Scalar.divsi arg0 10#32)

theorem expertW_fin : ∀ k : Fin 40, expertW (BitVec.ofNat 32 k.val) = BitVec.ofNat 32 (k.val / 10) := by decide +kernel

theorem i0_lt (i : grid0.Coords) : (i 0).val < 40 := (i 0).isLt
theorem i1_lt (i : grid0.Coords) : (i 1).val < 8 := (i 1).isLt

theorem expertW_eq (i : grid0.Coords) : expertW (BitVec.ofNat 32 (i 0).val) = BitVec.ofNat 32 ((i 0).val / 10) :=
  expertW_fin ⟨(i 0).val, i0_lt i⟩

/-- Position of an expert's rank `r` in the flat tables of the ranks. -/
theorem off3_eq (i : grid0.Coords) (r : ℕ) (hr : r < 20) : k0_off3 i (BitVec.ofNat 32 r) 0 = (i 0).val / 10 * 20 + r := by
  show (expertW (BitVec.ofNat 32 (i 0).val) * 20#32 + BitVec.ofNat 32 r).toNat = _
  rw [expertW_eq]
  have := i0_lt i
  simp only [BitVec.toNat_add, BitVec.toNat_mul, BitVec.toNat_ofNat]
  omega

/-- Position of the scale of a weight block of the gate half in the flat table of the scales. -/
theorem off4_eq (i : grid0.Coords) (a b : ℕ) (ha : a ≤ 56) (hb : b < 56) :
    k0_off4 i (BitVec.ofNat 32 a) (BitVec.ofNat 32 b) 0 = (i 0).val / 10 * 1792 + (i 1).val * 112 + a + b := by
  show (expertW (BitVec.ofNat 32 (i 0).val) * 2#32 * 16#32 * 56#32 + BitVec.ofNat 32 (i 1).val * 2#32 * 56#32 + BitVec.ofNat 32 a + BitVec.ofNat 32 b).toNat = _
  rw [expertW_eq]
  have := i0_lt i
  have := i1_lt i
  simp only [BitVec.toNat_add, BitVec.toNat_mul, BitVec.toNat_ofNat]
  omega

/-- The same of the up half, sixteen block rows further. -/
theorem off5_eq (i : grid0.Coords) (a b : ℕ) (ha : a ≤ 56) (hb : b < 56) :
    k0_off5 i (BitVec.ofNat 32 a) (BitVec.ofNat 32 b) 0 = (i 0).val / 10 * 1792 + (i 1).val * 112 + 896 + a + b := by
  show (expertW (BitVec.ofNat 32 (i 0).val) * 2#32 * 16#32 * 56#32 + BitVec.ofNat 32 (i 1).val * 2#32 * 56#32 + 896#32 + BitVec.ofNat 32 a + BitVec.ofNat 32 b).toNat = _
  rw [expertW_eq]
  have := i0_lt i
  have := i1_lt i
  simp only [BitVec.toNat_add, BitVec.toNat_mul, BitVec.toNat_ofNat]
  omega

end Cert.KernelIdeal.Up

end
-- ==== Proof.Leaf.lean ====
module

public import proofs.«01_k».proof.Proof.BodyIdeal
public import proofs.«01_k».proof.Proof.Offsets

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! What the kernel stores in its two scratch arrays, block by block and then whole. -/

/-- The scale table at a position. -/
def nat1 (f : S7168.Idx → EReal) (n : ℕ) : EReal := f (ix1 (Fin.ofNat 7168 n))

/-- The widened weights of one grid step: gate rows over up rows, each element by its block's scale. -/
def wBlk (base : ℕ) (s : S7168.Idx → EReal) (g u : S1x256x7168.Idx → EReal) (q : S512x7168.Idx) : EReal :=
  if (q 0).val < 256 then g (ix3 0 (Fin.ofNat 256 (q 0).val) (q 1)) * nat1 s (base + (q 0).val / 128 * 56 + (q 1).val / 128)
  else u (ix3 0 (Fin.ofNat 256 ((q 0).val - 256)) (q 1)) * nat1 s (base + 896 + ((q 0).val - 256) / 128 * 56 + (q 1).val / 128)

theorem wpay_apply (s : Elt Ideal .f32) (w : Vec Ideal S1x128x128 .fp8e4m3) (j : S128x128.Idx) :
    k0_pay96 (F := Ideal) s w j = w (ix3 0 (j 0) (j 1)) * s := by
  unfold k0_pay96
  pointwise

theorem word_apply {κ : Kind} {sp : Space} (v : View sig κ sp S7168 .f32) (f : v.ty.Contents (Elt Ideal)) (off : Fin 1 → ℕ) (inb) (h) (n : ℕ) (hn : off 0 = n) :
    View.readAt (Elt Ideal) v (Rect.unit (s := S7168) off S1.size inb).toLoadRect f (Shape.Idx.first h) = nat1 (v.read (Elt Ideal) f) n := by
  show v.read (Elt Ideal) f _ = v.read (Elt Ideal) f _
  congr 1
  funext a
  obtain rfl : a = 0 := Subsingleton.elim _ _
  apply Fin.ext
  have hb : off 0 + 1 ≤ 7168 := inb 0
  show off 0 + 1 * _ = n % 7168
  rw [← hn, Nat.mod_eq_of_lt (by omega)]
  have : ((Shape.Idx.first h : S1.Idx) 0).val < 1 := ((Shape.Idx.first h : S1.Idx) 0).isLt
  omega

section
variable (c : Dev nD) (i : grid0.Coords)
    (M7 : Memref sig .tc .smem S7168 .f32) (M10 M11 : Memref sig .tc .vmem S1x256x7168 .fp8e4m3)
    (f7 : Bf (F := Ideal) c M7) (f10 : Bf (F := Ideal) c M10) (f11 : Bf (F := Ideal) c M11)

/-- The first scale of the step's weight blocks. -/
def sBase : ℕ := (i 0).val / 10 * 1792 + (i 1).val * 112

/-- The widened weights the step stores. -/
def wNew : S512x7168.Idx → EReal :=
  wBlk (sBase i) (M7.view.read (Elt Ideal) f7) (M10.view.read (Elt Ideal) f10) (M11.view.read (Elt Ideal) f11)

/-- A stored piece is `wNew` on its rectangle. -/
def WOk (p : View.Piece (Elt Ideal) S512x7168 .bf16) : Prop := ∀ x, p.2 x = wNew c i M7 M10 M11 f7 f10 f11 (p.1.emb x)

/-- A block of the gate half is stored as `wNew` says. -/
theorem wleaf_g {a b r k : ℕ} {inb1 h1 inb2 inb3} (h : a * 128 = r * 56 ∧ k = 128 * b ∧ (r = 0 ∨ r = 128) ∧ b < 56) :
    WOk c i M7 M10 M11 f7 f10 f11 ⟨Rect.unit (s := S512x7168) ![r, k] S128x128.size inb3,
      k0_pay96 (F := Ideal) (View.readAt (Elt Ideal) M7.view (Rect.unit (s := S7168) (k0_off4 i (BitVec.ofNat 32 a) (BitVec.ofNat 32 b)) S1.size inb1).toLoadRect f7 (Shape.Idx.first h1))
        (View.readAt (Elt Ideal) M10.view (Rect.unit (s := S1x256x7168) ![0, r, k] S1x128x128.size inb2).toLoadRect f10)⟩ := by
  intro x
  obtain ⟨ha, hk, hr, hb⟩ := h
  change S128x128.Idx at x
  have hx0 : (x 0).val < 128 := (x 0).isLt
  have hx1 : (x 1).val < 128 := (x 1).isLt
  have e0 : ((Rect.unit (s := S512x7168) ![r, k] S128x128.size inb3).emb x 0).val = r + (x 0).val := by
    show r + 1 * (x 0).val = _; omega
  have e1 : ((Rect.unit (s := S512x7168) ![r, k] S128x128.size inb3).emb x 1).val = k + (x 1).val := by
    show k + 1 * (x 1).val = _; omega
  refine (wpay_apply _ _ x).trans ?_
  rw [word_apply M7.view f7 _ inb1 h1 _ (off4_eq i a b (by omega) hb)]
  unfold wNew wBlk
  rw [if_pos (by rw [e0]; omega)]
  refine congrArg₂ (· * ·) ?_ (congrArg _ ?_)
  · show M10.view.read (Elt Ideal) f10 _ = M10.view.read (Elt Ideal) f10 _
    congr 1
    funext d
    apply Fin.ext
    match d with
    | ⟨0, _⟩ => rfl
    | ⟨1, _⟩ => show r + 1 * (x 0).val = _ % 256; rw [e0, Nat.mod_eq_of_lt (by omega)]; omega
    | ⟨2, _⟩ => show k + 1 * (x 1).val = _; exact Eq.trans (by omega) e1.symm
  · rw [e0, e1]; unfold sBase; omega

/-- A block of the up half likewise. -/
theorem wleaf_u {a b r R k : ℕ} {inb1 h1 inb2 inb3} (h : a * 128 = r * 56 ∧ k = 128 * b ∧ (r = 0 ∨ r = 128) ∧ b < 56 ∧ R = 256 + r) :
    WOk c i M7 M10 M11 f7 f10 f11 ⟨Rect.unit (s := S512x7168) ![R, k] S128x128.size inb3,
      k0_pay96 (F := Ideal) (View.readAt (Elt Ideal) M7.view (Rect.unit (s := S7168) (k0_off5 i (BitVec.ofNat 32 a) (BitVec.ofNat 32 b)) S1.size inb1).toLoadRect f7 (Shape.Idx.first h1))
        (View.readAt (Elt Ideal) M11.view (Rect.unit (s := S1x256x7168) ![0, r, k] S1x128x128.size inb2).toLoadRect f11)⟩ := by
  intro x
  obtain ⟨ha, hk, hr, hb, hR⟩ := h
  change S128x128.Idx at x
  have hx0 : (x 0).val < 128 := (x 0).isLt
  have hx1 : (x 1).val < 128 := (x 1).isLt
  have e0 : ((Rect.unit (s := S512x7168) ![R, k] S128x128.size inb3).emb x 0).val = R + (x 0).val := by
    show R + 1 * (x 0).val = _; omega
  have e1 : ((Rect.unit (s := S512x7168) ![R, k] S128x128.size inb3).emb x 1).val = k + (x 1).val := by
    show k + 1 * (x 1).val = _; omega
  refine (wpay_apply _ _ x).trans ?_
  rw [word_apply M7.view f7 _ inb1 h1 _ (off5_eq i a b (by omega) hb)]
  unfold wNew wBlk
  rw [if_neg (by rw [e0]; omega)]
  refine congrArg₂ (· * ·) ?_ (congrArg _ ?_)
  · show M11.view.read (Elt Ideal) f11 _ = M11.view.read (Elt Ideal) f11 _
    congr 1
    funext d
    apply Fin.ext
    match d with
    | ⟨0, _⟩ => rfl
    | ⟨1, _⟩ => show r + 1 * (x 0).val = _ % 256; rw [e0, Nat.mod_eq_of_lt (by omega)]; omega
    | ⟨2, _⟩ => show k + 1 * (x 1).val = _; exact Eq.trans (by omega) e1.symm
  · rw [e0, e1]; unfold sBase; omega

seal k0_off4 k0_off5 in
set_option maxHeartbeats 4000000 in
/-- Every piece stored into the weights' scratch array is `wNew` on its rectangle. -/
theorem w_pieces : ∀ p ∈ step.sl.H15_224 (F := Ideal) c i M7 M10 M11 f7 f10 f11, WOk c i M7 M10 M11 f7 f10 f11 p := by
  iterate 112 refine List.forall_mem_cons.2 ⟨by refine wleaf_u c i M7 M10 M11 f7 f10 f11 ?_; decide, ?_⟩
  iterate 112 refine List.forall_mem_cons.2 ⟨by refine wleaf_g c i M7 M10 M11 f7 f10 f11 ?_; decide, ?_⟩
  exact List.forall_mem_nil _
end

end Cert.KernelIdeal.Up

end
-- ==== Proof.Rows.lean ====
module

public import proofs.«01_k».proof.Proof.Leaf
public import Idealize.ShloMosaic.Lib.Ring

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The rows a grid step widens, and what its two scratch arrays read back as. -/

/-- Whether row `x` lies in one of the first `n` ranks' ranges (start `o r`, length `c r`). -/
def liveB (x : BitVec 32) (o c : ℕ → BitVec 32) : ℕ → BitVec 1
  | 0 => 0#1
  | n + 1 => Scalar.ori (liveB x o c n)
      (Scalar.andi (Scalar.cmpi .sge x (o n)) (Scalar.cmpi .slt x (Scalar.addi (o n) (c n))))

theorem liveB_congr (x : BitVec 32) (o k o' k' : ℕ → BitVec 32) (n : ℕ) (h : ∀ r < n, o r = o' r ∧ k r = k' r) :
    liveB x o k n = liveB x o' k' n := by
  induction n with
  | zero => rfl
  | succ n ih =>
    obtain ⟨h1, h2⟩ := h n (Nat.lt_succ_self n)
    simp only [liveB, h1, h2, ih fun r hr => h r (Nat.lt_succ_of_lt hr)]

/-- The word of a table of 80 at a position. -/
def nat80 (f : S80.Idx → BitVec 32) (n : ℕ) : BitVec 32 := f (ix1 (Fin.ofNat 80 n))

theorem word80_apply {κ : Kind} {sp : Space} (v : View sig κ sp S80 .i32) (f : v.ty.Contents (Elt Ideal)) (off : Fin 1 → ℕ) (inb) (h) (n : ℕ) (hn : off 0 = n) :
    View.readAt (Elt Ideal) v (Rect.unit (s := S80) off S1.size inb).toLoadRect f (Shape.Idx.first h) = nat80 (v.read (Elt Ideal) f) n := by
  show v.read (Elt Ideal) f _ = v.read (Elt Ideal) f _
  congr 1
  funext a
  obtain rfl : a = 0 := Subsingleton.elim _ _
  apply Fin.ext
  have hb : off 0 + 1 ≤ 80 := inb 0
  show off 0 + 1 * _ = n % 80
  rw [← hn, Nat.mod_eq_of_lt (by omega)]
  have : ((Shape.Idx.first h : S1.Idx) 0).val < 1 := ((Shape.Idx.first h : S1.Idx) 0).isLt
  omega

theorem off3_inb (i : grid0.Coords) (r : ℕ) (hr : r < 20) : ∀ a, k0_off3 i (BitVec.ofNat 32 r) a + S1.size a ≤ S80.size a := by
  intro a
  obtain rfl : a = 0 := Subsingleton.elim _ _
  rw [off3_eq i r hr]
  have := i0_lt i
  show _ + 1 ≤ 80
  omega

section
variable (c : Dev nD) (i : grid0.Coords)
    (M2 M3 : Memref sig .tc .smem S80 .i32) (f2 : Bf (F := Ideal) c M2) (f3 : Bf (F := Ideal) c M3)
    (M8 : Memref sig .tc .vmem S1x256x7168 .fp8e4m3) (M9 : Memref sig .tc .vmem S1x256x56 .f32)
    (f8 : Bf (F := Ideal) c M8) (f9 : Bf (F := Ideal) c M9) (hc : k0_cond4 i = 1#1)

/-- The mask of the step's rows, by the words read from the two tables of the ranks. -/
theorem mask_eq (j : S256x128.Idx) : step.sl.r_42 (F := Ideal) c i M2 M3 f2 f3 hc j =
    liveB (step.sl.v3213 i j) (fun r => nat80 (M2.view.read (Elt Ideal) f2) ((i 0).val / 10 * 20 + r))
      (fun r => nat80 (M3.view.read (Elt Ideal) f3) ((i 0).val / 10 * 20 + r)) 20 := by
  have e : step.sl.r_42 (F := Ideal) c i M2 M3 f2 f3 hc j = liveB (step.sl.v3213 i j)
      (fun r => if hr : r < 20 then View.readAt (Elt Ideal) M2.view (Rect.unit (s := S80) (k0_off3 i (BitVec.ofNat 32 r)) S1.size (off3_inb i r hr)).toLoadRect f2 (Shape.Idx.first (by exact (by decide : 0 < S1.numel))) else 0#32)
      (fun r => if hr : r < 20 then View.readAt (Elt Ideal) M3.view (Rect.unit (s := S80) (k0_off3 i (BitVec.ofNat 32 r)) S1.size (off3_inb i r hr)).toLoadRect f3 (Shape.Idx.first (by exact (by decide : 0 < S1.numel))) else 0#32) 20 := rfl
  rw [e]
  refine liveB_congr _ _ _ _ _ _ fun r hr => ?_
  simp only [dif_pos hr]
  exact ⟨word80_apply M2.view f2 _ _ _ _ (off3_eq i r hr), word80_apply M3.view f3 _ _ _ _ (off3_eq i r hr)⟩

/-- The row tile of grid row `arg0` within its expert, as the kernel computes it: the remainder by 10. -/
def tileW (arg0 : BitVec 32) : BitVec 32 :=
  Scalar.select (Scalar.andi (Scalar.xori (Scalar.cmpi .slt (Scalar.remsi arg0 10#32) 0#32) 0#1) (Scalar.cmpi .ne (Scalar.remsi arg0 10#32) 0#32))
    (Scalar.addi (Scalar.remsi arg0 10#32) 10#32) (Scalar.remsi arg0 10#32)

theorem tileW_fin : ∀ k : Fin 40, tileW (BitVec.ofNat 32 k.val) = BitVec.ofNat 32 (k.val % 10) := by decide +kernel

/-- The row number, within the expert, of a row of the step's tile. -/
theorem row_eq (j : S256x128.Idx) : step.sl.v3213 i j = BitVec.ofNat 32 ((i 0).val % 10 * 256 + (j 0).val) := by
  have e1 : step.sl.v3211 j = BitVec.ofNat 32 (j 0).val := by
    unfold step.sl.v3211
    pointwise
  have e2 : step.sl.v3210 i = Scalar.muli (tileW (BitVec.ofNat 32 (i 0).val)) 256#32 := rfl
  show step.sl.v3211 j + step.sl.v3210 i = _
  rw [e1, e2]
  show BitVec.ofNat 32 (j 0).val + tileW (BitVec.ofNat 32 (i 0).val) * 256#32 = _
  rw [tileW_fin ⟨(i 0).val, i0_lt i⟩]
  have hj : (j 0).val < 256 := (j 0).isLt
  apply BitVec.eq_of_toNat_eq
  simp only [BitVec.toNat_add, BitVec.toNat_mul, BitVec.toNat_ofNat]
  omega

/-- The widened activations the step stores: a row outside every rank's range is zero. -/
def xNew (q : S256x7168.Idx) : EReal :=
  if liveB (BitVec.ofNat 32 ((i 0).val % 10 * 256 + (q 0).val)) (fun r => nat80 (M2.view.read (Elt Ideal) f2) ((i 0).val / 10 * 20 + r))
      (fun r => nat80 (M3.view.read (Elt Ideal) f3) ((i 0).val / 10 * 20 + r)) 20 = 1#1
  then (M8.view.read (Elt Ideal) f8 : S1x256x7168.Idx → EReal) (ix3 0 (q 0) (q 1)) * (M9.view.read (Elt Ideal) f9 : S1x256x56.Idx → EReal) (ix3 0 (q 0) (Fin.ofNat 56 ((q 1).val / 128)))
  else 0

theorem xpay_apply (k : IVec S256x128 1) (s : Vec Ideal S1x256x1 .f32) (x : Vec Ideal S1x256x128 .fp8e4m3) (j : S256x128.Idx) :
    k0_pay86 (F := Ideal) k s x j = if k j = 1#1 then (x (ix3 0 (j 0) (j 1)) * s (ix3 0 (j 0) 0) : EReal) else 0 := by
  unfold k0_pay86
  pointwise
  rfl

/-- A stored piece is `xNew` on its rectangle. -/
def XOk (p : View.Piece (Elt Ideal) S256x7168 .bf16) : Prop := ∀ x, p.2 x = xNew c i M2 M3 f2 f3 M8 M9 f8 f9 (p.1.emb x)

theorem xleaf {g o : ℕ} {inb1 inb2 inb3} (h : o = 128 * g ∧ g < 56) :
    XOk c i M2 M3 f2 f3 M8 M9 f8 f9 ⟨Rect.unit (s := S256x7168) ![0, o] S256x128.size inb3,
      k0_pay86 (F := Ideal) (step.sl.r_42 (F := Ideal) c i M2 M3 f2 f3 hc)
        (View.readAt (Elt Ideal) M9.view (Rect.unit (s := S1x256x56) ![0, 0, g] S1x256x1.size inb1).toLoadRect f9)
        (View.readAt (Elt Ideal) M8.view (Rect.unit (s := S1x256x7168) ![0, 0, o] S1x256x128.size inb2).toLoadRect f8)⟩ := by
  intro x
  obtain ⟨ho, hg⟩ := h
  change S256x128.Idx at x
  have hx0 : (x 0).val < 256 := (x 0).isLt
  have hx1 : (x 1).val < 128 := (x 1).isLt
  have e0 : ((Rect.unit (s := S256x7168) ![0, o] S256x128.size inb3).emb x 0).val = (x 0).val := by
    show 0 + 1 * (x 0).val = _; omega
  have e1 : ((Rect.unit (s := S256x7168) ![0, o] S256x128.size inb3).emb x 1).val = o + (x 1).val := by
    show o + 1 * (x 1).val = _; omega
  refine (xpay_apply _ _ _ x).trans ?_
  rw [mask_eq]
  unfold xNew
  rw [row_eq, e0]
  refine if_congr Iff.rfl (congrArg₂ (· * ·) ?_ ?_) rfl
  · show M8.view.read (Elt Ideal) f8 _ = M8.view.read (Elt Ideal) f8 _
    congr 1
    funext d
    apply Fin.ext
    match d with
    | ⟨0, _⟩ => rfl
    | ⟨1, _⟩ => show 0 + 1 * (x 0).val = _; exact Eq.trans (by omega) e0.symm
    | ⟨2, _⟩ => show o + 1 * (x 1).val = _; exact Eq.trans (by omega) e1.symm
  · show M9.view.read (Elt Ideal) f9 _ = M9.view.read (Elt Ideal) f9 _
    congr 1
    funext d
    apply Fin.ext
    match d with
    | ⟨0, _⟩ => rfl
    | ⟨1, _⟩ => show 0 + 1 * (x 0).val = _; exact Eq.trans (by omega) e0.symm
    | ⟨2, _⟩ => show g + 1 * 0 = _ % 56; rw [e1, Nat.mod_eq_of_lt (by omega)]; omega

theorem zero2 : (![0, 0] : Fin 2 → ℕ) = fun _ => 0 := by funext a; fin_cases a <;> rfl

theorem zero3 : (![0, 0, 0] : Fin 3 → ℕ) = fun _ => 0 := by funext a; fin_cases a <;> rfl

set_option maxHeartbeats 4000000 in
/-- At the first grid step of a row tile the activations' scratch array reads back as `xNew`. -/
theorem x_read (hc : k0_cond4 i = 1#1) (M14 : Memref sig .tc .vmem S256x7168 .bf16) (f14 : Bf (F := Ideal) c M14) :
    step.sl.v2959 (F := Ideal) c i M2 M3 M8 M9 M14 f2 f3 f8 f9 f14 = xNew c i M2 M3 f2 f3 M8 M9 f8 f9 := by
  unfold step.sl.v2959
  rw [dif_pos hc]
  refine (View.ld_unit_zero zero2 _ _).trans ?_
  funext y
  refine View.read_writes_apply_of_pieces (Val := Elt Ideal) M14.view _ (xNew c i M2 M3 f2 f3 M8 M9 f8 f9) _ ?_ y (View.cover_of_tiledL _ ![256, 128] (by sl_kernel_rfl) y)
  change ∀ p ∈ _, XOk c i M2 M3 f2 f3 M8 M9 f8 f9 p
  iterate 56 refine List.forall_mem_cons.2 ⟨by refine xleaf c i M2 M3 f2 f3 M8 M9 f8 f9 hc ?_; decide, ?_⟩
  exact List.forall_mem_nil _

/-- At a later grid step of the tile it reads back as it stood. -/
theorem x_read_later (hn : ¬ k0_cond4 i = 1#1) (M14 : Memref sig .tc .vmem S256x7168 .bf16) (f14 : Bf (F := Ideal) c M14) :
    step.sl.v2959 (F := Ideal) c i M2 M3 M8 M9 M14 f2 f3 f8 f9 f14 = M14.view.read (Elt Ideal) f14 := by
  unfold step.sl.v2959
  rw [dif_neg hn]
  exact View.ld_unit_zero zero2 _ _

set_option maxHeartbeats 4000000 in
/-- The weights' scratch array reads back as `wNew`. -/
theorem w_read (M7 : Memref sig .tc .smem S7168 .f32) (M10 M11 : Memref sig .tc .vmem S1x256x7168 .fp8e4m3) (M15 : Memref sig .tc .vmem S512x7168 .bf16)
    (f7 : Bf (F := Ideal) c M7) (f10 : Bf (F := Ideal) c M10) (f11 : Bf (F := Ideal) c M11) :
    step.sl.v2960 (F := Ideal) c i M7 M10 M11 M15 f7 f10 f11 = wNew c i M7 M10 M11 f7 f10 f11 := by
  have hcov : ∀ y, ∃ p ∈ step.sl.H15_224 (F := Ideal) c i M7 M10 M11 f7 f10 f11, y ∈ p.1.set :=
    View.cover_of_tiledL _ ![128, 128] (by sl_kernel_rfl)
  unfold step.sl.v2960
  rw [View.readCov_eq_canon_ld _ _ _ hcov]
  refine (View.ld_unit_zero zero2 _ _).trans ?_
  funext y
  exact View.canon_apply_of_pieces _ _ (w_pieces c i M7 M10 M11 f7 f10 f11) y (hcov y)

end

end Cert.KernelIdeal.Up

end
-- ==== Proof.Expo.lean ====
module

public import proofs.«01_k».proof.Proof.Leaf

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The exponent of a block: the kernel's binary search for it over the words of the powers of two, and the plain count. -/

/-- The value of the word whose exponent field is `w`. -/
def thr (w : BitVec 32) : EReal := Ideal.ofBits .f32 (IntOp.shli .vector w 23#32)

theorem field_fin : ∀ n : Fin 256, ((BitVec.ofNat 32 n.val <<< 23).extractLsb' 23 8).toNat = n.val
    ∧ ((BitVec.ofNat 32 n.val <<< 23).extractLsb' 0 23).toNat = 0 ∧ (BitVec.ofNat 32 n.val <<< 23).extractLsb' 31 1 = 0#1 := by decide +kernel

theorem thr_def (w : BitVec 32) : thr w = Ideal.ieee 8 23 (w <<< 23) := rfl

theorem thr_eq (n : ℕ) (h1 : 1 ≤ n) (h2 : n ≤ 254) : thr (BitVec.ofNat 32 n) = (((2 : ℝ) ^ ((n : ℤ) - 127) : ℝ) : EReal) := by
  obtain ⟨a, b, d⟩ := field_fin ⟨n, by omega⟩
  rw [thr_def]
  unfold Ideal.ieee
  simp only [show 8 + 23 = 31 from rfl]
  simp only [a, b, d]
  rw [if_neg (by omega), if_neg (by omega)]
  refine congrArg (fun r : ℝ => (r : EReal)) ?_
  have : ((n : ℤ) - (2 ^ (8 - 1) - 1) - (23 : ℕ)) = ((n : ℤ) - 127) - 23 := by norm_num
  rw [this, zpow_sub₀ (two_ne_zero : (2 : ℝ) ≠ 0) ((n : ℤ) - 127) 23]
  norm_num
  field_simp

theorem thr_top : thr (BitVec.ofNat 32 255) = ⊤ := by
  obtain ⟨a, b, d⟩ := field_fin 255
  rw [thr_def]
  unfold Ideal.ieee
  simp only [show 8 + 23 = 31 from rfl]
  rw [if_pos (by exact a), if_pos (by exact b), if_neg (by simp [d])]

theorem thr_mono (i j : ℕ) (h1 : 1 ≤ i) (hij : i ≤ j) (h2 : j < 256) : thr (BitVec.ofNat 32 i) ≤ thr (BitVec.ofNat 32 j) := by
  by_cases hj : j = 255
  · subst hj; rw [thr_top]; exact le_top
  · rw [thr_eq i h1 (by omega), thr_eq j (by omega) (by omega)]
    exact EReal.coe_le_coe_iff.2 (zpow_le_zpow_right₀ (by norm_num) (by omega))

/-- One step of the search: take the bit if the power of two reached with it is not above `a`. -/
def srch (a : EReal) (c b : BitVec 32) : BitVec 32 := Scalar.select (Ideal.cmp .oge a (thr (IntOp.addi c b))) (IntOp.addi c b) c

/-- The search has found the greatest candidate up to steps of `w`. -/
def Srch (a : EReal) (w : ℕ) (c : BitVec 32) : Prop :=
  ∃ n, c = BitVec.ofNat 32 n ∧ n + w ≤ 256 ∧ (n = 0 ∨ thr (BitVec.ofNat 32 n) ≤ a) ∧ ∀ j, n + w ≤ j → j < 256 → ¬ thr (BitVec.ofNat 32 j) ≤ a

theorem srch_step (a : EReal) (b : ℕ) (hb : 0 < b) (c : BitVec 32) (h : Srch a (b + b) c) : Srch a b (srch a c (BitVec.ofNat 32 b)) := by
  obtain ⟨n, rfl, hn, h0, h1⟩ := h
  have e : IntOp.addi (BitVec.ofNat 32 n) (BitVec.ofNat 32 b) = BitVec.ofNat 32 (n + b) := (BitVec.ofNat_add n b).symm
  unfold srch
  rw [e]
  by_cases hp : thr (BitVec.ofNat 32 (n + b)) ≤ a
  · have : Ideal.cmp .oge a (thr (BitVec.ofNat 32 (n + b))) = 1#1 := by simp [Ideal.cmp, hp]
    rw [this]
    exact ⟨n + b, rfl, by omega, Or.inr hp, fun j hj => h1 j (by omega)⟩
  · have : Ideal.cmp .oge a (thr (BitVec.ofNat 32 (n + b))) = 0#1 := by simp [Ideal.cmp, hp]
    rw [this]
    refine ⟨n, rfl, by omega, h0, fun j hj hj' hle => hp ?_⟩
    exact (thr_mono (n + b) j (by omega) hj hj').trans hle

/-- The whole search, eight bits. -/
def srchAll (a : EReal) : BitVec 32 :=
  srch a (srch a (srch a (srch a (srch a (srch a (srch a (srch a 0#32 128#32) 64#32) 32#32) 16#32) 8#32) 4#32) 2#32) 1#32

theorem srchAll_ok (a : EReal) : Srch a 1 (srchAll a) :=
  srch_step a 1 (by omega) _ (srch_step a 2 (by omega) _ (srch_step a 4 (by omega) _ (srch_step a 8 (by omega) _
    (srch_step a 16 (by omega) _ (srch_step a 32 (by omega) _ (srch_step a 64 (by omega) _ (srch_step a 128 (by omega) _
      ⟨0, rfl, by omega, Or.inl rfl, fun j hj hj' => by omega⟩)))))))

/-- How many of the powers of two from -126 to 125 are not above `a`. -/
def cnt (a : EReal) : ℕ := ((Finset.range 252).filter fun k : ℕ => (((2 : ℝ) ^ ((k : ℤ) - 126) : ℝ) : EReal) ≤ a).card

/-- The exponent of a block whose greatest magnitude over the format's greatest is `a`. -/
def expR (a : EReal) : ℤ := if a = 0 then 0 else (cnt a : ℤ) - 126

theorem cnt_le (a : EReal) : cnt a ≤ 252 := (Finset.card_filter_le _ _).trans (by simp)

theorem srch_cnt (a : EReal) : ∃ n, srchAll a = BitVec.ofNat 32 n ∧ n < 256 ∧ min n 252 = cnt a := by
  obtain ⟨n, e, hn, h0, h1⟩ := srchAll_ok a
  refine ⟨n, e, by omega, ?_⟩
  have : ((Finset.range 252).filter fun k : ℕ => (((2 : ℝ) ^ ((k : ℤ) - 126) : ℝ) : EReal) ≤ a) = Finset.range (min n 252) := by
    ext k
    simp only [Finset.mem_filter, Finset.mem_range]
    have key (hk : k < 252) : (((2 : ℝ) ^ ((k : ℤ) - 126) : ℝ) : EReal) = thr (BitVec.ofNat 32 (k + 1)) := by
      rw [thr_eq (k + 1) (by omega) (by omega)]
      refine congrArg (fun z : ℤ => (((2 : ℝ) ^ z : ℝ) : EReal)) ?_
      push_cast; omega
    constructor
    · rintro ⟨hk, hle⟩
      rw [key hk] at hle
      by_contra hc
      exact h1 (k + 1) (by omega) (by omega) hle
    · intro hk
      refine ⟨by omega, ?_⟩
      rw [key (by omega)]
      rcases h0 with h0 | h0
      · omega
      · exact (thr_mono (k + 1) n (by omega) (by omega) (by omega)).trans h0
  unfold cnt
  rw [this, Finset.card_range]

/-- The exponent's word as the kernel computes it. -/
def exW (a : EReal) : BitVec 32 :=
  Scalar.select (Ideal.cmp .oeq a (Ideal.ofBits .f32 0x00000000#32)) 0#32 (IntOp.subi (IntOp.minsi (srchAll a) 252#32) 126#32)

theorem min_fin : ∀ n : Fin 256, IntOp.minsi (BitVec.ofNat 32 n.val) 252#32 = BitVec.ofNat 32 (min n.val 252) := by decide +kernel

theorem scale_fin : ∀ n : Fin 253, IntOp.addi (IntOp.subi (BitVec.ofNat 32 n.val) 126#32) 127#32 = BitVec.ofNat 32 (n.val + 1)
    ∧ IntOp.addi (IntOp.subi 0#32 (IntOp.subi (BitVec.ofNat 32 n.val) 126#32)) 127#32 = BitVec.ofNat 32 (253 - n.val) := by decide +kernel

theorem exW_cases (a : EReal) : (a = 0 ∧ exW a = 0#32) ∨ (a ≠ 0 ∧ exW a = IntOp.subi (BitVec.ofNat 32 (cnt a)) 126#32) := by
  unfold exW
  rw [Ideal.ofBits_zero_f32]
  by_cases h : a = 0
  · left
    have : Ideal.cmp .oeq a 0 = 1#1 := by simp [Ideal.cmp, h]
    rw [this]
    exact ⟨h, rfl⟩
  · right
    have : Ideal.cmp .oeq a 0 = 0#1 := by simp [Ideal.cmp, h]
    rw [this]
    obtain ⟨n, e, hn, hm⟩ := srch_cnt a
    refine ⟨h, ?_⟩
    show IntOp.subi (IntOp.minsi (srchAll a) 252#32) 126#32 = _
    rw [e, min_fin ⟨n, hn⟩, ← hm]

/-- The scale the kernel stores is the power of two of the exponent. -/
theorem scaleW_eq (a : EReal) : thr (IntOp.addi (exW a) 127#32) = (((2 : ℝ) ^ (expR a) : ℝ) : EReal) := by
  rcases exW_cases a with ⟨h, e⟩ | ⟨h, e⟩
  · rw [e, show IntOp.addi 0#32 127#32 = BitVec.ofNat 32 127 from rfl, thr_eq 127 (by omega) (by omega)]
    simp [expR, h]
  · have hc := cnt_le a
    rw [e, (scale_fin ⟨cnt a, by omega⟩).1, thr_eq _ (by omega) (by omega)]
    unfold expR
    rw [if_neg h]
    refine congrArg (fun z : ℤ => (((2 : ℝ) ^ z : ℝ) : EReal)) ?_
    dsimp only
    push_cast; omega

/-- What it multiplies the block by is the inverse power. -/
theorem invW_eq (a : EReal) : thr (IntOp.addi (IntOp.subi 0#32 (exW a)) 127#32) = (((2 : ℝ) ^ (-expR a) : ℝ) : EReal) := by
  rcases exW_cases a with ⟨h, e⟩ | ⟨h, e⟩
  · rw [e, show IntOp.addi (IntOp.subi 0#32 0#32) 127#32 = BitVec.ofNat 32 127 from rfl, thr_eq 127 (by omega) (by omega)]
    simp [expR, h]
  · have hc := cnt_le a
    rw [e, (scale_fin ⟨cnt a, by omega⟩).2, thr_eq _ (by omega) (by omega)]
    unfold expR
    rw [if_neg h]
    refine congrArg (fun z : ℤ => (((2 : ℝ) ^ z : ℝ) : EReal)) ?_
    dsimp only
    omega

/-- The exponent as the reference computes it: a sum of 252 indicators less 126, or zero at zero. -/
theorem refEx_eq (a : EReal) (g : Fin 252 → EReal) (hg : ∀ k, g k = if (((2 : ℝ) ^ ((k.val : ℤ) - 126) : ℝ) : EReal) ≤ a then 1 else 0) :
    (if a = 0 then (0 : EReal) else (∑ k, g k) - ((126 : ℝ) : EReal)) = (((expR a : ℤ) : ℝ) : EReal) := by
  unfold expR
  by_cases h : a = 0
  · simp [h]
  · rw [if_neg h, if_neg h]
    have : (∑ k, g k) = ((cnt a : ℝ) : EReal) := by
      rw [Finset.sum_congr rfl fun k _ => hg k]
      rw [Fin.sum_univ_eq_sum_range (fun k : ℕ => if (((2 : ℝ) ^ ((k : ℤ) - 126) : ℝ) : EReal) ≤ a then (1 : EReal) else 0) 252]
      rw [Finset.sum_boole]
      exact (EReal.coe_natCast).symm
    rw [this, ← EReal.coe_sub]
    push_cast
    rfl

/-- The reference's power of an integer exponent. -/
theorem exp2_int (z : ℤ) : Ideal.exp2 (((z : ℝ) : EReal)) = (((2 : ℝ) ^ z : ℝ) : EReal) := by
  rw [Ideal.exp2_coe]
  congr 1
  exact Real.rpow_intCast 2 z

end Cert.KernelIdeal.Up

end
-- ==== Proof.Vals.lean ====
module

public import proofs.«01_k».proof.Proof.Rows
public import proofs.«01_k».proof.Proof.Expo

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! What one live grid step computes, entry by entry. -/

/-- The gated product of the two halves. -/
def silu (g u : EReal) : EReal := g * Ideal.logistic g * u

/-- A block's greatest magnitude over the format's greatest. -/
def blkA (h : Fin 128 → EReal) : EReal :=
  Finset.fold max (Ideal.ofBits .f32 0xFF800000#32) (fun x => FloatOps.absf (F := Ideal) (φ := .f32) (h x)) Finset.univ * Ideal.ofBits .f32 0x3B124925#32

/-- The code of an entry of a block, and the block's scale. -/
def codeV (a x : EReal) : EReal :=
  min (Ideal.ofBits .f32 0x43E00000#32) (max (Ideal.ofBits .f32 0xC3E00000#32) (x * (((2 : ℝ) ^ (-expR a) : ℝ) : EReal)))
def scaleV (a : EReal) : EReal := (((2 : ℝ) ^ (expR a) : ℝ) : EReal)

/-- The step's intermediate entry at row `p` and column `q` of the tile. -/
def hOf (X : S256x7168.Idx → EReal) (W : S512x7168.Idx → EReal) (p : Fin 256) (q : ℕ) : EReal :=
  silu (∑ x : Fin 7168, X (ix2 p x) * W (ix2 (Fin.ofNat 512 q) x)) (∑ x : Fin 7168, X (ix2 p x) * W (ix2 (Fin.ofNat 512 (256 + q)) x))

/-- The entries of block `b` of row `p`. -/
def hb (X : S256x7168.Idx → EReal) (W : S512x7168.Idx → EReal) (p : Fin 256) (b : ℕ) : Fin 128 → EReal := fun k => hOf X W p (128 * b + k.val)

theorem h_apply (X : Vec Ideal S256x7168 .bf16) (W : Vec Ideal S512x7168 .bf16) (j : S256x256.Idx) :
    k0_pay364 (F := Ideal) X W j = hOf X W (j 0) (j 1).val := by
  have hj : (j 1).val < 256 := (j 1).isLt
  have e : k0_pay364 (F := Ideal) X W j = silu (∑ x : Fin 7168, X (ix2 (j 0) x) * W (ix2 ⟨(j 1).val, by omega⟩ x)) (∑ x : Fin 7168, X (ix2 (j 0) x) * W (ix2 ⟨256 + (j 1).val, by omega⟩ x)) := by
    unfold k0_pay364
    pointwise
    rfl
  rw [e]
  unfold hOf
  have e1 : Fin.ofNat 512 (j 1).val = ⟨(j 1).val, by omega⟩ := Fin.ext (Nat.mod_eq_of_lt (by omega))
  have e2 : Fin.ofNat 512 (256 + (j 1).val) = ⟨256 + (j 1).val, by omega⟩ := Fin.ext (Nat.mod_eq_of_lt (by omega))
  rw [e1, e2]

/-- One step of the search, on a column. -/
def srchV (a : FVec Ideal S256x1 .f32) (c : IVec S256x1 32) (b : BitVec 32) : IVec S256x1 32 :=
  select (cmpf .oge a (bitcastToFloat .f32 (shli (addi c (broadcast S256x1 b)) (broadcast S256x1 23#32)))) (addi c (broadcast S256x1 b)) c

theorem srchV_apply (a : FVec Ideal S256x1 .f32) (c : IVec S256x1 32) (b : BitVec 32) (j) : srchV a c b j = srch (a j) (c j) b := rfl

theorem s379 (a : FVec Ideal S256x1 .f32) : k0_pay379 a k0_pay378 128#32 =
    srchV a (srchV a (srchV a (srchV a (srchV a (broadcast S256x1 0#32) 128#32) 64#32) 32#32) 16#32) 8#32 := rfl
theorem s380 (a : FVec Ideal S256x1 .f32) (c) : k0_pay380 a c 4#32 =
    select (cmpf .oeq a (broadcast S256x1 (Scalar.ofBits .f32 0x00000000#32))) (broadcast S256x1 0#32)
      (subi (minsi (srchV a (srchV a (srchV a c 4#32) 2#32) 1#32) (broadcast S256x1 252#32)) (broadcast S256x1 126#32)) := rfl
theorem s368 (X : FVec Ideal S256x128 .f32) : k0_pay368 X =
    srchV (k0_pay367 X) (srchV (k0_pay367 X) (srchV (k0_pay367 X) (srchV (k0_pay367 X) (broadcast S256x1 0#32) 128#32) 64#32) 32#32) 16#32 := rfl
theorem s371 (a : FVec Ideal S256x1 .f32) (X : FVec Ideal S256x128 .f32) (c) : k0_pay371 a c (addi c (broadcast S256x1 8#32)) k0_pay370 =
    select (cmpf .oeq a (broadcast S256x1 (Scalar.ofBits .f32 0x00000000#32))) (broadcast S256x1 0#32)
      (subi (minsi (srchV a (srchV a (srchV a (srchV a c 8#32) 4#32) 2#32) 1#32) (broadcast S256x1 252#32)) (broadcast S256x1 126#32)) := rfl

theorem ex1_apply (a : FVec Ideal S256x1 .f32) (j : S256x1.Idx) : k0_pay380 (F := Ideal) a (k0_pay379 a k0_pay378 128#32) 4#32 j = exW (a j) := by
  rw [s380, s379]
  simp only [select, cmpf, subi, minsi, broadcast, srchV_apply]
  rfl
theorem ex0_apply (X : FVec Ideal S256x128 .f32) (j : S256x1.Idx) : k0_pay371 (k0_pay367 (F := Ideal) X) (k0_pay368 X) (k0_pay369 X) k0_pay370 j = exW (k0_pay367 (F := Ideal) X j) := by
  rw [show k0_pay369 X = addi (k0_pay368 X) (broadcast S256x1 8#32) from rfl, s371 _ X, s368]
  simp only [select, cmpf, subi, minsi, broadcast, srchV_apply]
  rfl

theorem a0_apply (X : Vec Ideal S256x7168 .bf16) (W : Vec Ideal S512x7168 .bf16) (j : S256x1.Idx) :
    k0_pay367 (F := Ideal) (k0_pay366 X W) j = blkA (hb X W (j 0) 0) := by
  have e : k0_pay367 (F := Ideal) (k0_pay366 X W) j = blkA fun x => k0_pay364 X W (ix2 (j 0) ⟨x.val, by omega⟩) := by
    unfold k0_pay367 k0_pay366 k0_pay365
    pointwise
    rfl
  rw [e]
  refine congrArg blkA (funext fun x => (h_apply X W _).trans ?_)
  show hOf X W (j 0) x.val = hOf X W (j 0) (128 * 0 + x.val)
  rw [Nat.mul_zero, Nat.zero_add]

theorem a1_apply (X : Vec Ideal S256x7168 .bf16) (W : Vec Ideal S512x7168 .bf16) (j : S256x1.Idx) :
    k0_pay377 (F := Ideal) (k0_pay364 X W) j = blkA (hb X W (j 0) 1) := by
  have e : k0_pay377 (F := Ideal) (k0_pay364 X W) j = blkA fun x => k0_pay364 X W (ix2 (j 0) ⟨128 + x.val, by omega⟩) := by
    unfold k0_pay377 k0_pay376
    pointwise
    rfl
  rw [e]
  exact congrArg blkA (funext fun x => (h_apply X W _).trans rfl)

/-- The words of the exponents of the step's two blocks, by row. -/
def ex0 (X : Vec Ideal S256x7168 .bf16) (W : Vec Ideal S512x7168 .bf16) : IVec S256x1 32 :=
  k0_pay371 (k0_pay367 (F := Ideal) (k0_pay366 X W)) (k0_pay368 (k0_pay366 X W)) (k0_pay369 (k0_pay366 X W)) k0_pay370
def ex1 (X : Vec Ideal S256x7168 .bf16) (W : Vec Ideal S512x7168 .bf16) : IVec S256x1 32 :=
  k0_pay380 (F := Ideal) (k0_pay377 (k0_pay364 X W)) (k0_pay379 (k0_pay377 (k0_pay364 X W)) k0_pay378 128#32) 4#32

theorem ex0_eq (X : Vec Ideal S256x7168 .bf16) (W : Vec Ideal S512x7168 .bf16) (j : S256x1.Idx) : ex0 X W j = exW (blkA (hb X W (j 0) 0)) := by
  rw [ex0, ex0_apply, a0_apply]
theorem ex1_eq (X : Vec Ideal S256x7168 .bf16) (W : Vec Ideal S512x7168 .bf16) (j : S256x1.Idx) : ex1 X W j = exW (blkA (hb X W (j 0) 1)) := by
  rw [ex1, ex1_apply, a1_apply]

theorem code0_apply (X : Vec Ideal S256x7168 .bf16) (W : Vec Ideal S512x7168 .bf16) (j : S1x256x128.Idx) :
    k0_pay374 (F := Ideal) (k0_pay365 X W) (subi (broadcast S256x1 0#32) (ex0 X W)) k0_pay373 j = codeV (blkA (hb X W (j 1) 0)) (hOf X W (j 1) (j 2).val) := by
  have hj : (j 2).val < 128 := (j 2).isLt
  have e : k0_pay374 (F := Ideal) (k0_pay365 X W) (subi (broadcast S256x1 0#32) (ex0 X W)) k0_pay373 j =
      min (Ideal.ofBits .f32 0x43E00000#32) (max (Ideal.ofBits .f32 0xC3E00000#32) (k0_pay364 X W (ix2 (j 1) ⟨(j 2).val, by omega⟩) *
        thr (IntOp.addi (IntOp.subi 0#32 (ex0 X W (ix2 (j 1) 0))) 127#32))) := by
    unfold k0_pay374 k0_pay373 k0_pay365
    pointwise
    rfl
  rw [e, ex0_eq, invW_eq, h_apply]
  rfl

theorem code1_apply (X : Vec Ideal S256x7168 .bf16) (W : Vec Ideal S512x7168 .bf16) (j : S1x256x128.Idx) :
    k0_pay382 (F := Ideal) (k0_pay381 (k0_pay376 (k0_pay364 X W)) (k0_pay377 (k0_pay364 X W)) (k0_pay379 (k0_pay377 (k0_pay364 X W)) k0_pay378 128#32) 4#32) step.sl.cst_1561 j
      = codeV (blkA (hb X W (j 1) 1)) (hOf X W (j 1) (128 + (j 2).val)) := by
  have hj : (j 2).val < 128 := (j 2).isLt
  have e : k0_pay382 (F := Ideal) (k0_pay381 (k0_pay376 (k0_pay364 X W)) (k0_pay377 (k0_pay364 X W)) (k0_pay379 (k0_pay377 (k0_pay364 X W)) k0_pay378 128#32) 4#32) step.sl.cst_1561 j =
      min (Ideal.ofBits .f32 0x43E00000#32) (max (Ideal.ofBits .f32 0xC3E00000#32) (k0_pay364 X W (ix2 (j 1) ⟨128 + (j 2).val, by omega⟩) *
        thr (IntOp.addi (IntOp.subi 0#32 (ex1 X W (ix2 (j 1) 0))) 127#32))) := by
    unfold k0_pay382 k0_pay381 k0_pay376 step.sl.cst_1561
    pointwise
    rfl
  rw [e, ex1_eq, invW_eq, h_apply]
  rfl

theorem eqW (n j : ℕ) (hn : n < 8) (hj : j < 16) (b : ℕ) (hb : b < 2) :
    IntOp.cmpi .eq (BitVec.ofNat 32 j) (Scalar.addi (Scalar.muli (BitVec.ofNat 32 n) 2#32) (BitVec.ofNat 32 b)) = BitVec.ofBool (decide (j = 2 * n + b)) := by
  have : (BitVec.ofNat 32 j = Scalar.addi (Scalar.muli (BitVec.ofNat 32 n) 2#32) (BitVec.ofNat 32 b)) ↔ j = 2 * n + b := by
    constructor
    · intro h
      have h := congrArg BitVec.toNat h
      change _ = (BitVec.ofNat 32 n * 2#32 + BitVec.ofNat 32 b).toNat at h
      simp only [BitVec.toNat_add, BitVec.toNat_mul, BitVec.toNat_ofNat] at h
      omega
    · rintro rfl
      show _ = BitVec.ofNat 32 n * 2#32 + BitVec.ofNat 32 b
      apply BitVec.eq_of_toNat_eq
      simp only [BitVec.toNat_add, BitVec.toNat_mul, BitVec.toNat_ofNat]
      omega
  show BitVec.ofBool _ = _
  congr 1
  by_cases h : j = 2 * n + b
  · rw [decide_eq_true h, this.2 h]; simp
  · have h' := mt this.1 h
    simp [h, h']

theorem scale0_apply (n : ℕ) (hn : n < 8) (X : Vec Ideal S256x7168 .bf16) (W : Vec Ideal S512x7168 .bf16) (v : Vec Ideal S1x256x16 .f32) (j : S1x256x16.Idx) :
    k0_pay375 (F := Ideal) (BitVec.ofNat 32 n) step.sl.v2967 (ex0 X W) v j = if (j 2).val = 2 * n + 0 then scaleV (blkA (hb X W (j 1) 0)) else v j := by
  have hj : (j 2).val < 16 := (j 2).isLt
  have e : k0_pay375 (F := Ideal) (BitVec.ofNat 32 n) step.sl.v2967 (ex0 X W) v j =
      Scalar.select (IntOp.cmpi .eq (BitVec.ofNat 32 (j 2).val) (Scalar.addi (Scalar.muli (BitVec.ofNat 32 n) 2#32) (BitVec.ofNat 32 0)))
        (thr (IntOp.addi (ex0 X W (ix2 (j 1) 0)) 127#32)) (v j) := by
    unfold k0_pay375 step.sl.v2967
    pointwise
    rfl
  rw [e, ex0_eq, scaleW_eq, eqW n _ hn hj 0 (by omega)]
  by_cases h : (j 2).val = 2 * n + 0
  · rw [if_pos h, decide_eq_true h]; rfl
  · rw [if_neg h, decide_eq_false h]; rfl

theorem scale1_apply (n : ℕ) (hn : n < 8) (X : Vec Ideal S256x7168 .bf16) (W : Vec Ideal S512x7168 .bf16) (v : Vec Ideal S1x256x16 .f32) (j : S1x256x16.Idx) :
    k0_pay3 (F := Ideal) (k0_pay383 (BitVec.ofNat 32 n) step.sl.v2967 (ex1 X W) v) j = if (j 2).val = 2 * n + 1 then scaleV (blkA (hb X W (j 1) 1)) else v j := by
  have hj : (j 2).val < 16 := (j 2).isLt
  have e : k0_pay3 (F := Ideal) (k0_pay383 (BitVec.ofNat 32 n) step.sl.v2967 (ex1 X W) v) j =
      Scalar.select (IntOp.cmpi .eq (BitVec.ofNat 32 (j 2).val) (Scalar.addi (Scalar.muli (BitVec.ofNat 32 n) 2#32) (BitVec.ofNat 32 1)))
        (thr (IntOp.addi (ex1 X W (ix2 (j 1) 0)) 127#32)) (v j) := by
    unfold k0_pay3 k0_pay383 step.sl.v2967
    pointwise
    rfl
  rw [e, ex1_eq, scaleW_eq, eqW n _ hn hj 1 (by omega)]
  by_cases h : (j 2).val = 2 * n + 1
  · rw [if_pos h, decide_eq_true h]; rfl
  · rw [if_neg h, decide_eq_false h]; rfl

end Cert.KernelIdeal.Up

end
-- ==== Proof.StepVal.lean ====
module

public import proofs.«01_k».proof.Proof.Vals
public import Idealize.ShloMosaic.Lib.VecWindow
public import Idealize.ShloMosaic.Lib.WritesUnit
public import Idealize.ShloMosaic.Lib.IdealHost

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! What one grid step leaves in the two results' blocks and in the activations' scratch array. -/

section
variable (c : Dev nD) (i : grid0.Coords)
    (M2 : Memref sig .tc .smem S80 .i32) (h2 : M2.IsWhole)
    (M3 : Memref sig .tc .smem S80 .i32) (h3 : M3.IsWhole)
    (M4 : Memref sig .tc .smem S40 .i32) (h4 : M4.IsWhole)
    (M5 : Memref sig .tc .smem S40 .i32) (h5 : M5.IsWhole)
    (M6 : Memref sig .tc .smem S40 .i32) (h6 : M6.IsWhole)
    (M7 : Memref sig .tc .smem S7168 .f32) (h7 : M7.IsWhole)
    (M8 : Memref sig .tc .vmem S1x256x7168 .fp8e4m3) (h8 : M8.IsWhole)
    (M9 : Memref sig .tc .vmem S1x256x56 .f32) (h9 : M9.IsWhole)
    (M10 : Memref sig .tc .vmem S1x256x7168 .fp8e4m3) (h10 : M10.IsWhole)
    (M11 : Memref sig .tc .vmem S1x256x7168 .fp8e4m3) (h11 : M11.IsWhole)
    (M12 : Memref sig .tc .vmem S1x256x256 .fp8e4m3) (h12 : M12.IsWhole)
    (M13 : Memref sig .tc .vmem S1x256x16 .f32) (h13 : M13.IsWhole)
    (M14 : Memref sig .tc .vmem S256x7168 .bf16) (h14 : M14.IsWhole)
    (M15 : Memref sig .tc .vmem S512x7168 .bf16) (h15 : M15.IsWhole)
    (f2 : Bf (F := Ideal) c M2) (f3 : Bf (F := Ideal) c M3) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15)

/-- A live step's codes. -/
theorem hc_live (hl : k0_cond3 (step.sl.r_1 (F := Ideal) c i M6 f6) = 1#1) (y : S1x256x256.Idx) :
    M12.view.read (Elt Ideal) ((step (F := Ideal) c i M2 h2 M3 h3 M4 h4 M5 h5 M6 h6 M7 h7 M8 h8 M9 h9 M10 h10 M11 h11 M12 h12 M13 h13 M14 h14 M15 h15 f2 f3 f6 f7 f8 f9 f10 f11 f12 f13 f14 f15).1.1) y =
      codeV (blkA (hb (step.sl.v2959 (F := Ideal) c i M2 M3 M8 M9 M14 f2 f3 f8 f9 f14) (step.sl.v2960 (F := Ideal) c i M7 M10 M11 M15 f7 f10 f11) (y 1) ((y 2).val / 128))) (hOf (step.sl.v2959 (F := Ideal) c i M2 M3 M8 M9 M14 f2 f3 f8 f9 f14) (step.sl.v2960 (F := Ideal) c i M7 M10 M11 M15 f7 f10 f11) (y 1) (y 2).val) := by
  have h1 : (y 1).val < 256 := (y 1).isLt
  have h2 : (y 2).val < 256 := (y 2).isLt
  unfold step
  dsimp only
  rw [dif_pos hl]
  by_cases hy : (y 2).val < 128
  · refine (View.read_writes_cons_unit_of_not_mem _ _ _ _ _ y rfl (2 : Fin 3) (Or.inl (show (y 2).val < 128 from hy))).trans ?_
    refine (View.read_writes_cons_unit_of_mem _ _ _ _ _ y (ix3 (0 : Fin 1) (y 1) (⟨(y 2).val, hy⟩ : Fin 128)) rfl ?_).trans ?_
    · intro a
      match a with
      | ⟨0, _⟩ => have : (y 0).val < 1 := (y 0).isLt
                  show (y 0).val = 0 + 0; omega
      | ⟨1, _⟩ => show (y 1).val = 0 + (y 1).val; omega
      | ⟨2, _⟩ => show (y 2).val = 0 + (y 2).val; omega
    · rw [show (y 2).val / 128 = 0 by omega]
      exact code0_apply _ _ (ix3 (0 : Fin 1) (y 1) (⟨(y 2).val, hy⟩ : Fin 128))
  · refine (View.read_writes_cons_unit_of_mem _ _ _ _ _ y (ix3 (0 : Fin 1) (y 1) (⟨(y 2).val - 128, by omega⟩ : Fin 128)) rfl ?_).trans ?_
    · intro a
      match a with
      | ⟨0, _⟩ => have : (y 0).val < 1 := (y 0).isLt
                  show (y 0).val = 0 + 0; omega
      | ⟨1, _⟩ => show (y 1).val = 0 + (y 1).val; omega
      | ⟨2, _⟩ => show (y 2).val = 128 + ((y 2).val - 128); omega
    · rw [show (y 2).val / 128 = 1 by omega]
      refine (code1_apply (step.sl.v2959 (F := Ideal) c i M2 M3 M8 M9 M14 f2 f3 f8 f9 f14) (step.sl.v2960 (F := Ideal) c i M7 M10 M11 M15 f7 f10 f11) (ix3 (0 : Fin 1) (y 1) (⟨(y 2).val - 128, by omega⟩ : Fin 128))).trans ?_
      show codeV _ (hOf _ _ (y 1) (128 + ((y 2).val - 128))) = _
      rw [show 128 + ((y 2).val - 128) = (y 2).val by omega]
      rfl

/-- The scales' block at a live step before its own columns are stored. -/
theorem hs_prev (hl : ¬ k0_cond1 (step.sl.r (F := Ideal) c i M6 f6) = 1#1) (y : S1x256x16.Idx) :
    step.sl.v3083 (F := Ideal) c i M6 M13 f6 f13 y = if k0_cond4 i = 1#1 then 1 else M13.view.read (Elt Ideal) f13 y := by
  unfold step.sl.v3083
  refine (congrFun (View.readAt_full (Val := Elt Ideal) M13.view _ _) y).trans ?_
  by_cases h : k0_cond4 i = 1#1
  · rw [dif_pos h, if_pos h]
    refine (congrFun (View.read_writes_full _ _ _ _ _) y).trans ?_
    show Ideal.ofBits .f32 0x3F800000#32 = 1
    exact Ideal.ofBits_one_f32
  · rw [dif_neg h, if_neg h, dif_neg hl]

/-- A live step's scales: its own two columns, the others as they were. -/
theorem hs_live (hl : k0_cond3 (step.sl.r_1 (F := Ideal) c i M6 f6) = 1#1) (y : S1x256x16.Idx) :
    M13.view.read (Elt Ideal) ((step (F := Ideal) c i M2 h2 M3 h3 M4 h4 M5 h5 M6 h6 M7 h7 M8 h8 M9 h9 M10 h10 M11 h11 M12 h12 M13 h13 M14 h14 M15 h15 f2 f3 f6 f7 f8 f9 f10 f11 f12 f13 f14 f15).1.2.1) y =
      if (y 2).val = 2 * (i 1).val + 1 then scaleV (blkA (hb (step.sl.v2959 (F := Ideal) c i M2 M3 M8 M9 M14 f2 f3 f8 f9 f14) (step.sl.v2960 (F := Ideal) c i M7 M10 M11 M15 f7 f10 f11) (y 1) 1))
      else if (y 2).val = 2 * (i 1).val + 0 then scaleV (blkA (hb (step.sl.v2959 (F := Ideal) c i M2 M3 M8 M9 M14 f2 f3 f8 f9 f14) (step.sl.v2960 (F := Ideal) c i M7 M10 M11 M15 f7 f10 f11) (y 1) 0))
      else step.sl.v3083 (F := Ideal) c i M6 M13 f6 f13 y := by
  unfold step
  dsimp only
  rw [dif_pos hl]
  refine (congrFun (View.read_writes_full _ _ _ _ _) y).trans ?_
  refine (scale1_apply (i 1).val (i1_lt i) (step.sl.v2959 (F := Ideal) c i M2 M3 M8 M9 M14 f2 f3 f8 f9 f14) (step.sl.v2960 (F := Ideal) c i M7 M10 M11 M15 f7 f10 f11) _ y).trans ?_
  by_cases h : (y 2).val = 2 * (i 1).val + 1
  · rw [if_pos h, if_pos h]
  · rw [if_neg h, if_neg h]
    refine Eq.trans ?_ (scale0_apply (i 1).val (i1_lt i) (step.sl.v2959 (F := Ideal) c i M2 M3 M8 M9 M14 f2 f3 f8 f9 f14) (step.sl.v2960 (F := Ideal) c i M7 M10 M11 M15 f7 f10 f11) _ y)
    unfold step.sl.v3204 step.sl.H13_1
    refine (congrFun (View.readCov_full (Val := Elt Ideal) M13.view _ _ _ _) y).trans ?_
    rfl

/-- A dead step's codes. -/
theorem hc_dead (hl : ¬ k0_cond3 (step.sl.r_1 (F := Ideal) c i M6 f6) = 1#1) (hd : k0_cond1 (step.sl.r (F := Ideal) c i M6 f6) = 1#1) (y : S1x256x256.Idx) :
    M12.view.read (Elt Ideal) ((step (F := Ideal) c i M2 h2 M3 h3 M4 h4 M5 h5 M6 h6 M7 h7 M8 h8 M9 h9 M10 h10 M11 h11 M12 h12 M13 h13 M14 h14 M15 h15 f2 f3 f6 f7 f8 f9 f10 f11 f12 f13 f14 f15).1.1) y = 0 := by
  unfold step
  dsimp only
  rw [dif_neg hl, dif_pos hd]
  refine (congrFun (View.read_writes_full _ _ _ _ _) y).trans ?_
  show Ideal.ofBits .f32 0x00000000#32 = 0
  exact Ideal.ofBits_zero_f32

/-- A dead step's scales. -/
theorem hs_dead (hl : ¬ k0_cond3 (step.sl.r_1 (F := Ideal) c i M6 f6) = 1#1) (hd : k0_cond1 (step.sl.r (F := Ideal) c i M6 f6) = 1#1) (y : S1x256x16.Idx) :
    M13.view.read (Elt Ideal) ((step (F := Ideal) c i M2 h2 M3 h3 M4 h4 M5 h5 M6 h6 M7 h7 M8 h8 M9 h9 M10 h10 M11 h11 M12 h12 M13 h13 M14 h14 M15 h15 f2 f3 f6 f7 f8 f9 f10 f11 f12 f13 f14 f15).1.2.1) y = if k0_cond2 i = 1#1 then 1 else M13.view.read (Elt Ideal) f13 y := by
  unfold step
  dsimp only
  rw [dif_neg hl, dif_pos hd]
  by_cases h : k0_cond2 i = 1#1
  · rw [dif_pos h, if_pos h]
    refine (congrFun (View.read_writes_full _ _ _ _ _) y).trans ?_
    show Ideal.ofBits .f32 0x3F800000#32 = 1
    exact Ideal.ofBits_one_f32
  · rw [dif_neg h, if_neg h]

/-- After a live step the activations' scratch array reads as the step read it. -/
theorem xb_live (hl : k0_cond3 (step.sl.r_1 (F := Ideal) c i M6 f6) = 1#1) :
    M14.view.read (Elt Ideal) ((step (F := Ideal) c i M2 h2 M3 h3 M4 h4 M5 h5 M6 h6 M7 h7 M8 h8 M9 h9 M10 h10 M11 h11 M12 h12 M13 h13 M14 h14 M15 h15 f2 f3 f6 f7 f8 f9 f10 f11 f12 f13 f14 f15).1.2.2.1) = (step.sl.v2959 (F := Ideal) c i M2 M3 M8 M9 M14 f2 f3 f8 f9 f14) := by
  unfold step step.sl.v2959
  dsimp only
  rw [dif_pos hl]
  exact (View.readAt_full (Val := Elt Ideal) M14.view _ _).symm
end

end Cert.KernelIdeal.Up

end
-- ==== Proof.Spec.lean ====
module

public import proofs.«01_k».proof.Proof.StepVal

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The call's two results as functions of its six arguments, and a tile's intermediate entries as theirs. -/

section
variable (xc : S4x2560x7168.Idx → EReal) (xs : S4x2560x56.Idx → EReal) (off cnt : S4x20.Idx → BitVec 32)
  (wc : S4x4096x7168.Idx → EReal) (ws : S4x32x56.Idx → EReal)

/-- Whether row `r` of expert `e` lies in a rank's range. -/
def liveRow (e : Fin 4) (r : ℕ) : BitVec 1 :=
  liveB (BitVec.ofNat 32 r) (fun k => off (ix2 e (Fin.ofNat 20 k))) (fun k => cnt (ix2 e (Fin.ofNat 20 k))) 20

/-- The activations and the weights, scaled; a row outside every range is zero. -/
def xAt (e : Fin 4) (r : ℕ) (k : Fin 7168) : EReal :=
  if liveRow off cnt e r = 1#1 then xc (ix3 e (Fin.ofNat 2560 r) k) * xs (ix3 e (Fin.ofNat 2560 r) (Fin.ofNat 56 (k.val / 128))) else 0
def wAt (e : Fin 4) (f : ℕ) (k : Fin 7168) : EReal :=
  wc (ix3 e (Fin.ofNat 4096 f) k) * ws (ix3 e (Fin.ofNat 32 (f / 128)) (Fin.ofNat 56 (k.val / 128)))

/-- The intermediate entry of row `r` and feature `f`, and a row's block of 128 of them. -/
def hAt (e : Fin 4) (r f : ℕ) : EReal :=
  silu (∑ k : Fin 7168, xAt xc xs off cnt e r k * wAt wc ws e f k) (∑ k : Fin 7168, xAt xc xs off cnt e r k * wAt wc ws e (2048 + f) k)
def hBlk (e : Fin 4) (r b : ℕ) : Fin 128 → EReal := fun k => hAt xc xs off cnt wc ws e r (128 * b + k.val)

/-- The two results. -/
def codes (y : S4x2560x2048.Idx) : EReal :=
  codeV (blkA (hBlk xc xs off cnt wc ws (y 0) (y 1).val ((y 2).val / 128))) (hAt xc xs off cnt wc ws (y 0) (y 1).val (y 2).val)
def scales (y : S4x2560x16.Idx) : EReal := scaleV (blkA (hBlk xc xs off cnt wc ws (y 0) (y 1).val (y 2).val))

section
variable {xc xs off cnt wc ws}
variable (e : Fin 4) (T n : ℕ) (X : S256x7168.Idx → EReal) (W : S512x7168.Idx → EReal)
  (hX : ∀ (p : Fin 256) k, X (ix2 p k) = xAt xc xs off cnt e (T + p.val) k)
  (hW : ∀ q < 512, ∀ k, W (ix2 (Fin.ofNat 512 q) k) = if q < 256 then wAt wc ws e (256 * n + q) k else wAt wc ws e (2048 + (256 * n + (q - 256))) k)
include hX hW

theorem hOf_eq (p : Fin 256) (q : ℕ) (hq : q < 256) : hOf X W p q = hAt xc xs off cnt wc ws e (T + p.val) (256 * n + q) := by
  unfold hOf hAt
  simp only [hX, hW q (by omega), hW (256 + q) (by omega), if_pos hq, if_neg (show ¬ 256 + q < 256 by omega), Nat.add_sub_cancel_left]

theorem hb_eq (p : Fin 256) (b : ℕ) (hb' : b < 2) : hb X W p b = hBlk xc xs off cnt wc ws e (T + p.val) (2 * n + b) := by
  funext k
  have := k.isLt
  unfold hb hBlk
  rw [hOf_eq e T n X W hX hW p _ (by omega)]
  congr 1
  omega
end

theorem absf_zero : FloatOps.absf (F := Ideal) (φ := .f32) (0 : EReal) = (0 : EReal) := by
  show max (0 : EReal) (-0) = 0
  simp

theorem negInf : Ideal.ofBits .f32 0xFF800000#32 ≤ (0 : EReal) := by
  simp [Ideal.ofBits, Ideal.ieee]

theorem lo_le : Ideal.ofBits .f32 0xC3E00000#32 ≤ (0 : EReal) := by
  simp [Ideal.ofBits, Ideal.ieee]
  exact mul_nonneg (by exact_mod_cast (by norm_num : (0 : ℝ) ≤ 14680064)) (by exact_mod_cast (by positivity : (0 : ℝ) ≤ (2 ^ 15)⁻¹))
theorem hi_ge : (0 : EReal) ≤ Ideal.ofBits .f32 0x43E00000#32 := by
  simp [Ideal.ofBits, Ideal.ieee]
  exact mul_nonneg (by exact_mod_cast (by norm_num : (0 : ℝ) ≤ 14680064)) (by exact_mod_cast (by positivity : (0 : ℝ) ≤ (2 ^ 15)⁻¹))

theorem blkA_zero : blkA (fun _ => 0) = 0 := by
  unfold blkA
  simp only [absf_zero]
  rw [Finset.fold_const (h := by simp)]
  · simp [negInf]
    intro h
    exact absurd h (Finset.univ_nonempty (α := Fin 128)).ne_empty

theorem expR_zero : expR 0 = 0 := if_pos rfl
theorem codeV_zero : codeV 0 0 = 0 := by
  unfold codeV
  rw [zero_mul, max_eq_right lo_le, min_eq_right hi_ge]
theorem scaleV_zero : scaleV 0 = 1 := by
  unfold scaleV
  rw [expR_zero]
  simp

/-- A row outside every range: zeros, of scale one. -/
theorem hAt_dead (e : Fin 4) (r f : ℕ) (h : ¬ liveRow off cnt e r = 1#1) : hAt xc xs off cnt wc ws e r f = 0 := by
  unfold hAt xAt silu
  simp only [if_neg h, zero_mul, Finset.sum_const_zero]
theorem hBlk_dead (e : Fin 4) (r b : ℕ) (h : ¬ liveRow off cnt e r = 1#1) : hBlk xc xs off cnt wc ws e r b = fun _ => 0 :=
  funext fun k => hAt_dead xc xs off cnt wc ws e r _ h
theorem codes_dead (y) (h : ¬ liveRow off cnt (y 0) (y 1).val = 1#1) : codes xc xs off cnt wc ws y = 0 := by
  unfold codes
  rw [hBlk_dead _ _ _ _ _ _ _ _ _ h, hAt_dead _ _ _ _ _ _ _ _ _ h, blkA_zero, codeV_zero]
theorem scales_dead (y) (h : ¬ liveRow off cnt (y 0) (y 1).val = 1#1) : scales xc xs off cnt wc ws y = 1 := by
  unfold scales
  rw [hBlk_dead _ _ _ _ _ _ _ _ _ h, blkA_zero, scaleV_zero]
end

theorem one1 : ∀ a : BitVec 1, a = 1#1 ∨ a = 0#1 := by decide
theorem ori1 : ∀ a b : BitVec 1, IntOp.ori a b = 1#1 ↔ a = 1#1 ∨ b = 1#1 := by decide
theorem andi1 : ∀ a b : BitVec 1, IntOp.andi a b = 1#1 ↔ a = 1#1 ∧ b = 1#1 := by decide

theorem liveB_iff (x : BitVec 32) (o c : ℕ → BitVec 32) (n : ℕ) :
    liveB x o c n = 1#1 ↔ ∃ r < n, (o r).sle x = true ∧ x.slt (o r + c r) = true := by
  induction n with
  | zero => simp [liveB]
  | succ n ih =>
    have h1 : Scalar.ori (liveB x o c n) (Scalar.andi (Scalar.cmpi .sge x (o n)) (Scalar.cmpi .slt x (Scalar.addi (o n) (c n)))) = 1#1 ↔
        liveB x o c n = 1#1 ∨ ((o n).sle x = true ∧ x.slt (o n + c n) = true) := by
      show IntOp.ori _ (IntOp.andi _ _) = 1#1 ↔ _
      rw [ori1, andi1]
      refine or_congr Iff.rfl (and_congr ?_ ?_)
      · show BitVec.ofBool ((o n).sle x) = 1#1 ↔ _
        cases (o n).sle x <;> decide
      · show BitVec.ofBool (x.slt (o n + c n)) = 1#1 ↔ _
        cases x.slt (o n + c n) <;> decide
    show Scalar.ori _ _ = 1#1 ↔ _
    rw [h1, ih]
    constructor
    · rintro (⟨r, hr, h⟩ | h)
      · exact ⟨r, by omega, h⟩
      · exact ⟨n, by omega, h⟩
    · rintro ⟨r, hr, h⟩
      by_cases hn : r = n
      · subst hn; exact Or.inr h
      · exact Or.inl ⟨r, by omega, h⟩

end Cert.KernelIdeal.Up

end
-- ==== Proof.TablesIdeal.lean ====
module

public import proofs.«01_k».proof.Proof.SetupIdeal
public import Idealize.ShloMosaic.Lib.Pipeline.FrameBody
public import Idealize.ShloMosaic.Lib.Claim
public import Idealize.ShloMosaic.Lib.WordCmp
public import Idealize.ShloMosaic.Lib.Routing.Ops
public import Idealize.ShloMosaic.Lib.SortNet.Extract

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ)

/-- Which tiles hold a live row, from the offsets and the counts. -/
def liveT (off cnt : IVec S4x20 32) : IVec S40 1 :=
  shapeCast S40 (Host.reduce IntOp.ori
    (andi (andi
      (cmpi .slt (broadcastInDim S4x10x20 ![0, 1, 2] bcast_S4x1x20_S4x10x20_0_1_2 (broadcastInDim S4x1x20 ![0, 2] bcast_S4x20_S4x1x20_0_2 off))
        (broadcastInDim S4x10x20 ![0, 1, 2] bcast_S1x10x1_S4x10x20_0_1_2
          (addi (muli (broadcastInDim S1x10x1 ![1] bcast_S10_S1x10x1_1 (iotaInDim S10 32 0)) (broadcastInDim S1x10x1 ![] bcast_S_S1x10x1 (constantI S_ 32 256#32)))
            (broadcastInDim S1x10x1 ![] bcast_S_S1x10x1 (constantI S_ 32 256#32)))))
      (cmpi .sgt (broadcastInDim S4x10x20 ![0, 1, 2] bcast_S4x1x20_S4x10x20_0_1_2 (broadcastInDim S4x1x20 ![0, 2] bcast_S4x20_S4x1x20_0_2 (addi off cnt)))
        (broadcastInDim S4x10x20 ![0, 1, 2] bcast_S1x10x1_S4x10x20_0_1_2
          (muli (broadcastInDim S1x10x1 ![1] bcast_S10_S1x10x1_1 (iotaInDim S10 32 0)) (broadcastInDim S1x10x1 ![] bcast_S_S1x10x1 (constantI S_ 32 256#32))))))
      (broadcastInDim S4x10x20 ![0, 1, 2] bcast_S4x1x20_S4x10x20_0_1_2 (broadcastInDim S4x1x20 ![0, 2] bcast_S4x20_S4x1x20_0_2
        (cmpi .sgt cnt (broadcastInDim S4x20 ![] bcast_S_S4x20 (constantI S_ 32 0#32))))))
    (constantI S_ 1 0#1) reducesTo_S4x10x20_S4x10_d2 h_S_) shapeCasts_S4x10_S40

/-- The last live tile up to each tile (tile 0 where there is none). -/
def lastT (l : IVec S40 1) : IVec S40 32 :=
  maxsi (Host.reduceWindow IntOp.maxsi ![40] ![1] ![39] ![0] (select l (iotaInDim S40 32 0) (broadcastInDim S40 ![] bcast_S_S40 (constantI S_ 32 4294967295#32)))
      (broadcastInDim S_ ![] bcast_S_S_ (constantI S_ 32 2147483648#32)) reduceWindows_S40_S40_w40s1p39_0 h_S_)
    (broadcastInDim S40 ![] bcast_S_S40 (constantI S_ 32 0#32))

/-- The sign of a word. -/
def sgnW (k : BitVec 32) : BitVec 32 := if k = 0 then 0 else if k.msb then -1 else 1

/-- Floor division by ten, word by word, and the remainder. -/
def teW (k : BitVec 32) : BitVec 32 :=
  Scalar.select (IntOp.andi (IntOp.cmpi .ne (sgnW k) (sgnW 10#32)) (IntOp.cmpi .ne (IntOp.remsi .host k 10#32) 0#32))
    (IntOp.subi (IntOp.divsi .host k 10#32) 1#32) (IntOp.divsi .host k 10#32)
def ttW (k : BitVec 32) : BitVec 32 :=
  Scalar.select (IntOp.andi (IntOp.cmpi .ne (IntOp.cmpi .slt (IntOp.remsi .host k 10#32) 0#32) (IntOp.cmpi .slt 10#32 0#32)) (IntOp.cmpi .ne (IntOp.remsi .host k 10#32) 0#32))
    (IntOp.addi (IntOp.remsi .host k 10#32) 10#32) (IntOp.remsi .host k 10#32)

/-- Floor division by ten, and its remainder, as the host states them. -/
def teT (k : IVec S40 32) (d : IVec S_ 32) : IVec S40 32 :=
  select (andi (cmpi .ne (signi k) (broadcastInDim S40 ![] bcast_S_S40 (signi d))) (cmpi .ne (Host.remsi k (broadcastInDim S40 ![] bcast_S_S40 d)) (broadcastInDim S40 ![] bcast_S_S40 (constantI S_ 32 0#32))))
    (subi (Host.divsi k (broadcastInDim S40 ![] bcast_S_S40 d)) (broadcastInDim S40 ![] bcast_S_S40 (constantI S_ 32 1#32))) (Host.divsi k (broadcastInDim S40 ![] bcast_S_S40 d))
def ttT (k : IVec S40 32) (d : IVec S_ 32) : IVec S40 32 :=
  let e := select (cmpi .eq d (constantI S_ 32 0#32)) (constantI S_ 32 1#32) d
  let r := Host.remsi k (broadcastInDim S40 ![] bcast_S_S40 e)
  select (andi (cmpi .ne (cmpi .slt r (broadcastInDim S40 ![] bcast_S_S40 (constantI S_ 32 0#32))) (broadcastInDim S40 ![] bcast_S_S40 (cmpi .slt e (constantI S_ 32 0#32)))) (cmpi .ne r (broadcastInDim S40 ![] bcast_S_S40 (constantI S_ 32 0#32))))
    (addi r (broadcastInDim S40 ![] bcast_S_S40 e)) r

theorem s0_v22 (v : Valuation τ sig (Elt F)) : StableHlo.after (hostOps0 (F := F)) v (Proc.devRef .tc main_v22) = liveT (v (Proc.devRef .tc main_arg2)) (v (Proc.devRef .tc main_arg3)) := by
  unfold hostOps0; after_results; try rfl
theorem s0_v23 (v : Valuation τ sig (Elt F)) : StableHlo.after (hostOps0 (F := F)) v (Proc.devRef .tc main_v23) = iotaInDim S40 32 0 := by
  unfold hostOps0; after_results; try rfl
theorem s0_c_3 (v : Valuation τ sig (Elt F)) : StableHlo.after (hostOps0 (F := F)) v (Proc.devRef .tc main_c_3) = constantI S_ 32 4294967295#32 := by
  unfold hostOps0; after_results; try rfl
theorem s1_v24 (v : Valuation τ sig (Elt F)) : StableHlo.after (hostOps0_1 (F := F)) v (Proc.devRef .tc main_v24) = select (v (Proc.devRef .tc main_v22)) (v (Proc.devRef .tc main_v23)) (broadcastInDim S40 ![] bcast_S_S40 (v (Proc.devRef .tc main_c_3))) := by
  unfold hostOps0_1; after_results; try rfl
theorem s2_v25 (v : Valuation τ sig (Elt F)) : StableHlo.after (hostOps0_2 (F := F)) v (Proc.devRef .tc main_v25) = Host.reduceWindow IntOp.maxsi ![40] ![1] ![39] ![0] (v (Proc.devRef .tc main_v24)) (broadcastInDim S_ ![] bcast_S_S_ (constantI S_ 32 2147483648#32)) reduceWindows_S40_S40_w40s1p39_0 h_S_ := by
  unfold hostOps0_2; after_results; simp only [StableHlo.TRef.ofBuf_toBuf]
  have h1 : ∀ z : IVec S40 32, (StableHlo.TRef.of main_v25).toBuf (Val := Elt F) z = z := fun _ => rfl
  have h2 : ∀ z : IVec S40 32, (StableHlo.TRef.of main_v24).ofBuf (Val := Elt F) z = z := fun _ => rfl
  refine (h1 _).trans ?_
  rw [h2]
theorem s3_v27 (v : Valuation τ sig (Elt F)) : StableHlo.after (hostOps0_3 (F := F)) v (Proc.devRef .tc main_v27) = maxsi (v (Proc.devRef .tc main_v25)) (broadcastInDim S40 ![] bcast_S_S40 (constantI S_ 32 0#32)) := by
  unfold hostOps0_3; after_results; try rfl
theorem s3_c_5 (v : Valuation τ sig (Elt F)) : StableHlo.after (hostOps0_3 (F := F)) v (Proc.devRef .tc main_c_5) = constantI S_ 32 10#32 := by
  unfold hostOps0_3; after_results; try rfl
theorem s4_v28 (v : Valuation τ sig (Elt F)) : StableHlo.after (hostOps0_4 (F := F)) v (Proc.devRef .tc main_v28) = teT (v (Proc.devRef .tc main_v27)) (v (Proc.devRef .tc main_c_5)) := by
  unfold hostOps0_4; after_results; simp only [StableHlo.TRef.ofBuf_toBuf]; rfl
theorem s5_c_6 (v : Valuation τ sig (Elt F)) : StableHlo.after (hostOps0_5 (F := F)) v (Proc.devRef .tc main_c_6) = constantI S_ 32 10#32 := by
  unfold hostOps0_5; after_results; try rfl
theorem s6_v29 (v : Valuation τ sig (Elt F)) : StableHlo.after (hostOps0_6 (F := F)) v (Proc.devRef .tc main_v29) = ttT (v (Proc.devRef .tc main_v27)) (v (Proc.devRef .tc main_c_6)) := by
  unfold hostOps0_6; after_results; simp only [StableHlo.TRef.ofBuf_toBuf]; rfl
theorem s7_v30 (v : Valuation τ sig (Elt F)) : StableHlo.after (hostOps0_7 (F := F)) v (Proc.devRef .tc main_v30) = extui 32 (v (Proc.devRef .tc main_v22)) natLt_1_32 := by
  unfold hostOps0_7; after_results; try rfl
theorem s7_v31 (v : Valuation τ sig (Elt F)) : StableHlo.after (hostOps0_7 (F := F)) v (Proc.devRef .tc main_v31) = shapeCast S80 (v (Proc.devRef .tc main_arg2)) shapeCasts_S4x20_S80 := by
  unfold hostOps0_7; after_results; try rfl
theorem s7_v32 (v : Valuation τ sig (Elt F)) : StableHlo.after (hostOps0_7 (F := F)) v (Proc.devRef .tc main_v32) = shapeCast S80 (v (Proc.devRef .tc main_arg3)) shapeCasts_S4x20_S80 := by
  unfold hostOps0_7; after_results; try rfl
theorem s7_v33 (v : Valuation τ sig (Elt F)) : StableHlo.after (hostOps0_7 (F := F)) v (Proc.devRef .tc main_v33) = shapeCast S7168 (v (Proc.devRef .tc main_arg5)) shapeCasts_S4x32x56_S7168 := by
  unfold hostOps0_7; after_results; try rfl
theorem s1_v22 (v : Valuation τ sig (Elt F)) : StableHlo.after (hostOps0_1 (F := F)) v (Proc.devRef .tc main_v22) = v (Proc.devRef .tc main_v22) := by
  unfold hostOps0_1; after_results; try rfl
theorem s2_v22 (v : Valuation τ sig (Elt F)) : StableHlo.after (hostOps0_2 (F := F)) v (Proc.devRef .tc main_v22) = v (Proc.devRef .tc main_v22) := by
  unfold hostOps0_2; after_results; try rfl
theorem s3_v22 (v : Valuation τ sig (Elt F)) : StableHlo.after (hostOps0_3 (F := F)) v (Proc.devRef .tc main_v22) = v (Proc.devRef .tc main_v22) := by
  unfold hostOps0_3; after_results; try rfl
theorem s4_v22 (v : Valuation τ sig (Elt F)) : StableHlo.after (hostOps0_4 (F := F)) v (Proc.devRef .tc main_v22) = v (Proc.devRef .tc main_v22) := by
  unfold hostOps0_4; after_results; try rfl
theorem s5_v22 (v : Valuation τ sig (Elt F)) : StableHlo.after (hostOps0_5 (F := F)) v (Proc.devRef .tc main_v22) = v (Proc.devRef .tc main_v22) := by
  unfold hostOps0_5; after_results; try rfl
theorem s6_v22 (v : Valuation τ sig (Elt F)) : StableHlo.after (hostOps0_6 (F := F)) v (Proc.devRef .tc main_v22) = v (Proc.devRef .tc main_v22) := by
  unfold hostOps0_6; after_results; try rfl
theorem s0_arg2 (v : Valuation τ sig (Elt F)) : StableHlo.after (hostOps0 (F := F)) v (Proc.devRef .tc main_arg2) = v (Proc.devRef .tc main_arg2) := by
  unfold hostOps0; after_results; try rfl
theorem s0_arg3 (v : Valuation τ sig (Elt F)) : StableHlo.after (hostOps0 (F := F)) v (Proc.devRef .tc main_arg3) = v (Proc.devRef .tc main_arg3) := by
  unfold hostOps0; after_results; try rfl
theorem s0_arg5 (v : Valuation τ sig (Elt F)) : StableHlo.after (hostOps0 (F := F)) v (Proc.devRef .tc main_arg5) = v (Proc.devRef .tc main_arg5) := by
  unfold hostOps0; after_results; try rfl
theorem s1_arg2 (v : Valuation τ sig (Elt F)) : StableHlo.after (hostOps0_1 (F := F)) v (Proc.devRef .tc main_arg2) = v (Proc.devRef .tc main_arg2) := by
  unfold hostOps0_1; after_results; try rfl
theorem s1_arg3 (v : Valuation τ sig (Elt F)) : StableHlo.after (hostOps0_1 (F := F)) v (Proc.devRef .tc main_arg3) = v (Proc.devRef .tc main_arg3) := by
  unfold hostOps0_1; after_results; try rfl
theorem s1_arg5 (v : Valuation τ sig (Elt F)) : StableHlo.after (hostOps0_1 (F := F)) v (Proc.devRef .tc main_arg5) = v (Proc.devRef .tc main_arg5) := by
  unfold hostOps0_1; after_results; try rfl
theorem s2_arg2 (v : Valuation τ sig (Elt F)) : StableHlo.after (hostOps0_2 (F := F)) v (Proc.devRef .tc main_arg2) = v (Proc.devRef .tc main_arg2) := by
  unfold hostOps0_2; after_results; try rfl
theorem s2_arg3 (v : Valuation τ sig (Elt F)) : StableHlo.after (hostOps0_2 (F := F)) v (Proc.devRef .tc main_arg3) = v (Proc.devRef .tc main_arg3) := by
  unfold hostOps0_2; after_results; try rfl
theorem s2_arg5 (v : Valuation τ sig (Elt F)) : StableHlo.after (hostOps0_2 (F := F)) v (Proc.devRef .tc main_arg5) = v (Proc.devRef .tc main_arg5) := by
  unfold hostOps0_2; after_results; try rfl
theorem s3_arg2 (v : Valuation τ sig (Elt F)) : StableHlo.after (hostOps0_3 (F := F)) v (Proc.devRef .tc main_arg2) = v (Proc.devRef .tc main_arg2) := by
  unfold hostOps0_3; after_results; try rfl
theorem s3_arg3 (v : Valuation τ sig (Elt F)) : StableHlo.after (hostOps0_3 (F := F)) v (Proc.devRef .tc main_arg3) = v (Proc.devRef .tc main_arg3) := by
  unfold hostOps0_3; after_results; try rfl
theorem s3_arg5 (v : Valuation τ sig (Elt F)) : StableHlo.after (hostOps0_3 (F := F)) v (Proc.devRef .tc main_arg5) = v (Proc.devRef .tc main_arg5) := by
  unfold hostOps0_3; after_results; try rfl
theorem s4_arg2 (v : Valuation τ sig (Elt F)) : StableHlo.after (hostOps0_4 (F := F)) v (Proc.devRef .tc main_arg2) = v (Proc.devRef .tc main_arg2) := by
  unfold hostOps0_4; after_results; try rfl
theorem s4_arg3 (v : Valuation τ sig (Elt F)) : StableHlo.after (hostOps0_4 (F := F)) v (Proc.devRef .tc main_arg3) = v (Proc.devRef .tc main_arg3) := by
  unfold hostOps0_4; after_results; try rfl
theorem s4_arg5 (v : Valuation τ sig (Elt F)) : StableHlo.after (hostOps0_4 (F := F)) v (Proc.devRef .tc main_arg5) = v (Proc.devRef .tc main_arg5) := by
  unfold hostOps0_4; after_results; try rfl
theorem s5_arg2 (v : Valuation τ sig (Elt F)) : StableHlo.after (hostOps0_5 (F := F)) v (Proc.devRef .tc main_arg2) = v (Proc.devRef .tc main_arg2) := by
  unfold hostOps0_5; after_results; try rfl
theorem s5_arg3 (v : Valuation τ sig (Elt F)) : StableHlo.after (hostOps0_5 (F := F)) v (Proc.devRef .tc main_arg3) = v (Proc.devRef .tc main_arg3) := by
  unfold hostOps0_5; after_results; try rfl
theorem s5_arg5 (v : Valuation τ sig (Elt F)) : StableHlo.after (hostOps0_5 (F := F)) v (Proc.devRef .tc main_arg5) = v (Proc.devRef .tc main_arg5) := by
  unfold hostOps0_5; after_results; try rfl
theorem s6_arg2 (v : Valuation τ sig (Elt F)) : StableHlo.after (hostOps0_6 (F := F)) v (Proc.devRef .tc main_arg2) = v (Proc.devRef .tc main_arg2) := by
  unfold hostOps0_6; after_results; try rfl
theorem s6_arg3 (v : Valuation τ sig (Elt F)) : StableHlo.after (hostOps0_6 (F := F)) v (Proc.devRef .tc main_arg3) = v (Proc.devRef .tc main_arg3) := by
  unfold hostOps0_6; after_results; try rfl
theorem s6_arg5 (v : Valuation τ sig (Elt F)) : StableHlo.after (hostOps0_6 (F := F)) v (Proc.devRef .tc main_arg5) = v (Proc.devRef .tc main_arg5) := by
  unfold hostOps0_6; after_results; try rfl
theorem s4_v27 (v : Valuation τ sig (Elt F)) : StableHlo.after (hostOps0_4 (F := F)) v (Proc.devRef .tc main_v27) = v (Proc.devRef .tc main_v27) := by
  unfold hostOps0_4; after_results; try rfl
theorem s5_v27 (v : Valuation τ sig (Elt F)) : StableHlo.after (hostOps0_5 (F := F)) v (Proc.devRef .tc main_v27) = v (Proc.devRef .tc main_v27) := by
  unfold hostOps0_5; after_results; try rfl
theorem s5_v28 (v : Valuation τ sig (Elt F)) : StableHlo.after (hostOps0_5 (F := F)) v (Proc.devRef .tc main_v28) = v (Proc.devRef .tc main_v28) := by
  unfold hostOps0_5; after_results; try rfl
theorem s6_v28 (v : Valuation τ sig (Elt F)) : StableHlo.after (hostOps0_6 (F := F)) v (Proc.devRef .tc main_v28) = v (Proc.devRef .tc main_v28) := by
  unfold hostOps0_6; after_results; try rfl
theorem s7_v28 (v : Valuation τ sig (Elt F)) : StableHlo.after (hostOps0_7 (F := F)) v (Proc.devRef .tc main_v28) = v (Proc.devRef .tc main_v28) := by
  unfold hostOps0_7; after_results; try rfl
theorem s7_v29 (v : Valuation τ sig (Elt F)) : StableHlo.after (hostOps0_7 (F := F)) v (Proc.devRef .tc main_v29) = v (Proc.devRef .tc main_v29) := by
  unfold hostOps0_7; after_results; try rfl

theorem after_append (l₁ l₂ : List (HloOp τ sig (Elt F))) (v : Valuation τ sig (Elt F)) :
    StableHlo.after (l₁ ++ l₂) v = StableHlo.after l₂ (StableHlo.after l₁ v) := by
  induction l₁ generalizing v with
  | nil => rfl
  | cons a l ih => exact ih _

theorem V_stages (b : Ref sig .tc) : V m 0 b = StableHlo.after hostOps0_7 (StableHlo.after hostOps0_6 (StableHlo.after hostOps0_5 (StableHlo.after hostOps0_4
    (StableHlo.after hostOps0_3 (StableHlo.after hostOps0_2 (StableHlo.after hostOps0_1 (StableHlo.after hostOps0 (fun b => m (0, b))))))))) (Proc.devRef .tc b) := by
  unfold V host
  rw [List.flatten_cons, List.flatten_cons, List.flatten_cons, List.flatten_cons, List.flatten_cons, List.flatten_cons, List.flatten_cons, List.flatten_cons, List.flatten_nil, List.append_nil,
    after_append, after_append, after_append, after_append, after_append, after_append, after_append]

/-- The offsets and the counts at launch. -/
abbrev offM : IVec S4x20 32 := m (0, Proc.devRef .tc main_arg2)
abbrev cntM : IVec S4x20 32 := m (0, Proc.devRef .tc main_arg3)

theorem tl_eq : V m 0 main_v30 = extui 32 (liveT (offM m) (cntM m)) natLt_1_32 := by
  rw [V_stages]
  rw [s7_v30, s6_v22, s5_v22, s4_v22, s3_v22, s2_v22, s1_v22, s0_v22]
theorem te_eq : V m 0 main_v28 = fun i => teW (lastT (liveT (offM m) (cntM m)) i) := by
  rw [V_stages]
  rw [s7_v28, s6_v28, s5_v28, s4_v28, s3_v27, s3_c_5, s2_v25, s1_v24, s0_v22, s0_v23, s0_c_3]
  rfl
theorem tt_eq : V m 0 main_v29 = fun i => ttW (lastT (liveT (offM m) (cntM m)) i) := by
  rw [V_stages]
  rw [s7_v29, s6_v29, s5_v27, s5_c_6, s4_v27, s3_v27, s2_v25, s1_v24, s0_v22, s0_v23, s0_c_3]
  rfl
theorem off_eq : V m 0 main_v31 = shapeCast S80 (offM m) shapeCasts_S4x20_S80 := by
  rw [V_stages]
  rw [s7_v31, s6_arg2, s5_arg2, s4_arg2, s3_arg2, s2_arg2, s1_arg2, s0_arg2]
theorem cnt_eq : V m 0 main_v32 = shapeCast S80 (cntM m) shapeCasts_S4x20_S80 := by
  rw [V_stages]
  rw [s7_v32, s6_arg3, s5_arg3, s4_arg3, s3_arg3, s2_arg3, s1_arg3, s0_arg3]
theorem s13_eq : V m 0 main_v33 = shapeCast S7168 (m (0, Proc.devRef .tc main_arg5)) shapeCasts_S4x32x56_S7168 := by
  rw [V_stages]
  rw [s7_v33, s6_arg5, s5_arg5, s4_arg5, s3_arg5, s2_arg5, s1_arg5, s0_arg5]

end Cert.KernelIdeal.Up

end
-- ==== Proof.OkIdeal.lean ====
module

public import proofs.«01_k».proof.Proof.TablesIdeal
public import Idealize.ShloMosaic.Lib.Pipeline.FrameBody
public import Idealize.ShloMosaic.Lib.Claim
public import Idealize.ShloMosaic.Lib.WordCmp
public import Idealize.ShloMosaic.Lib.Routing.Ops
public import Idealize.ShloMosaic.Lib.SortNet.Extract

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (URounds (GSem nD τ sig) Unit) ℕ

variable (m : (ℓ : Loc nD τ sig) → Buf (Elt F) ℓ)

/-! ## The running maximum -/

theorem foldl_maxsi_le {ι : Type} (g : ι → BitVec 32) (B : Int) (l : List ι) (z : BitVec 32) (hz : z.toInt ≤ B) (hg : ∀ n ∈ l, (g n).toInt ≤ B) :
    (l.foldl (fun r n => IntOp.maxsi r (g n)) z).toInt ≤ B := by
  induction l generalizing z with
  | nil => exact hz
  | cons a l ih =>
    refine ih _ ?_ fun n hn => hg n (List.mem_cons_of_mem _ hn)
    rw [SortNet.toInt_maxsi]
    exact max_le hz (hg a List.mem_cons_self)

theorem le_foldl_maxsi {ι : Type} (g : ι → BitVec 32) (l : List ι) (z : BitVec 32) :
    z.toInt ≤ (l.foldl (fun r n => IntOp.maxsi r (g n)) z).toInt ∧ ∀ n ∈ l, (g n).toInt ≤ (l.foldl (fun r n => IntOp.maxsi r (g n)) z).toInt := by
  induction l generalizing z with
  | nil => exact ⟨le_refl _, fun _ h => absurd h List.not_mem_nil⟩
  | cons a l ih =>
    obtain ⟨h1, h2⟩ := ih (IntOp.maxsi z (g a))
    rw [SortNet.toInt_maxsi] at h1
    refine ⟨le_trans (le_max_left _ _) h1, fun n hn => ?_⟩
    rcases List.mem_cons.mp hn with rfl | hn
    · exact le_trans (le_max_right _ _) h1
    · exact h2 n hn

theorem toInt_small (k : Nat) (hk : k < 40) : (BitVec.ofNat 32 k).toInt = k := by
  rw [BitVec.toInt_eq_toNat_cond, BitVec.toNat_ofNat, Nat.mod_eq_of_lt (by omega)]
  rw [if_pos (by omega)]

/-- The candidate a tile offers: its own number where it is live, minus one where it is not. -/
abbrev candT (l : IVec S40 1) : IVec S40 32 := select l (iotaInDim S40 32 0) (broadcastInDim S40 ![] bcast_S_S40 (constantI S_ 32 4294967295#32))

theorem candT_toInt (l : IVec S40 1) (j : S40.Idx) : (candT l j).toInt = if l j = 1#1 then ((j 0).val : Int) else -1 := by
  show (Scalar.select (l j) (BitVec.ofNat 32 (j 0).val) 4294967295#32).toInt = _
  rcases eq_or_ne (l j) 1#1 with h | h
  · rw [if_pos h, h]; exact toInt_small _ (j 0).isLt
  · rw [if_neg h]
    have : l j = 0#1 := by
      generalize l j = b at h ⊢
      revert b; decide
    rw [this]; rfl

theorem lastT_le (l : IVec S40 1) (j : S40.Idx) : (lastT l j).toInt ≤ (j 0).val ∧ 0 ≤ (lastT l j).toInt := by
  have hw : lastT l j = IntOp.maxsi (Host.reduceWindow IntOp.maxsi ![40] ![1] ![39] ![0] (candT l)
      (broadcastInDim S_ ![] bcast_S_S_ (constantI S_ 32 2147483648#32)) reduceWindows_S40_S40_w40s1p39_0 h_S_ j) 0#32 := rfl
  rw [hw, SortNet.toInt_maxsi]
  refine ⟨max_le ?_ (by simp), le_max_right _ _⟩
  unfold Host.reduceWindow
  have hv : (2147483648#32 : BitVec 32).toInt ≤ ((j 0).val : Int) := le_trans (show (2147483648#32 : BitVec 32).toInt ≤ 0 by decide) (by omega)
  refine foldl_maxsi_le _ _ _ _ hv fun n _ => ?_
  dsimp only
  split
  · next hin =>
    rw [candT_toInt]
    have hn : ((⟨1, ![40]⟩ : Shape).rowMajor.symm n 0).val < 40 := ((⟨1, ![40]⟩ : Shape).rowMajor.symm n 0).isLt
    split
    · refine Int.ofNat_le.mpr ?_
      show (j 0).val * 1 + ((⟨1, ![40]⟩ : Shape).rowMajor.symm n 0).val - 39 ≤ (j 0).val
      omega
    · omega
  · exact hv

theorem lastT_ge (l : IVec S40 1) (j : S40.Idx) (hl : l j = 1#1) : ((j 0).val : Int) ≤ (lastT l j).toInt := by
  have hw : lastT l j = IntOp.maxsi (Host.reduceWindow IntOp.maxsi ![40] ![1] ![39] ![0] (candT l)
      (broadcastInDim S_ ![] bcast_S_S_ (constantI S_ 32 2147483648#32)) reduceWindows_S40_S40_w40s1p39_0 h_S_ j) 0#32 := rfl
  rw [hw, SortNet.toInt_maxsi]
  refine le_trans ?_ (le_max_left _ _)
  unfold Host.reduceWindow
  let q : (⟨1, ![40]⟩ : Shape).Idx := fun | ⟨0, _⟩ => (⟨39, by decide⟩ : Fin 40)
  let nq := (⟨1, ![40]⟩ : Shape).rowMajor q
  have hq : (⟨1, ![40]⟩ : Shape).rowMajor.symm nq = q := Equiv.symm_apply_apply _ _
  refine le_trans ?_ ((le_foldl_maxsi _ _ _).2 nq (List.mem_finRange _))
  dsimp only
  rw [dif_pos (fun a => by
    match a with
    | ⟨0, _⟩ =>
      show 39 ≤ (j 0).val * 1 + ((⟨1, ![40]⟩ : Shape).rowMajor.symm nq 0).val ∧ (j 0).val * 1 + ((⟨1, ![40]⟩ : Shape).rowMajor.symm nq 0).val - 39 < 40
      rw [hq]
      have : (q 0).val = 39 := rfl
      have := (j 0).isLt
      have h40 : S40.size 0 = 40 := rfl
      omega)]
  have e : (fun a => (⟨(j (a.cast rfl)).val * (![1] : Fin 1 → Nat) a + ((⟨1, ![40]⟩ : Shape).rowMajor.symm nq a).val - (![39] : Fin 1 → Nat) a, by
    match a with
    | ⟨0, _⟩ =>
      show (j 0).val * 1 + ((⟨1, ![40]⟩ : Shape).rowMajor.symm nq 0).val - 39 < 40
      rw [hq]
      have : (q 0).val = 39 := rfl
      have := (j 0).isLt
      have h40 : S40.size 0 = 40 := rfl
      omega⟩ : Fin (S40.size a))) = j := funext fun a => by
    match a with
    | ⟨0, _⟩ =>
      refine Fin.ext ?_
      show (j 0).val * 1 + ((⟨1, ![40]⟩ : Shape).rowMajor.symm nq 0).val - 39 = (j 0).val
      rw [hq]
      show (j 0).val * 1 + 39 - 39 = (j 0).val
      omega
  refine le_of_eq (Eq.trans ?_ (congrArg BitVec.toInt (congrArg (candT l) e)).symm)
  rw [candT_toInt, if_pos hl]

theorem lastT_lt (l : IVec S40 1) (j : S40.Idx) : (lastT l j).toNat < 40 := by
  obtain ⟨h1, h2⟩ := lastT_le l j
  have := (j 0).isLt
  have h40 : S40.size 0 = 40 := rfl
  rw [BitVec.toInt_eq_toNat_cond] at h1 h2
  split at h1 <;> omega

/-- At a live tile the last live tile is the tile itself. -/
theorem lastT_live (l : IVec S40 1) (j : S40.Idx) (hl : l j = 1#1) : lastT l j = BitVec.ofNat 32 (j 0).val :=
  BitVec.eq_of_toInt_eq ((le_antisymm (lastT_le l j).1 (lastT_ge l j hl)).trans (toInt_small _ (j 0).isLt).symm)

theorem teW_eq : ∀ k : Fin 40, teW (BitVec.ofNat 32 k.val) = BitVec.ofNat 32 (k.val / 10) := by decide +kernel
theorem ttW_eq : ∀ k : Fin 40, ttW (BitVec.ofNat 32 k.val) = BitVec.ofNat 32 (k.val % 10) := by decide +kernel
theorem teW_lt (k : BitVec 32) (h : k.toNat < 40) : (teW k).toNat < 4 := by
  have := teW_eq ⟨k.toNat, h⟩
  rw [show BitVec.ofNat 32 k.toNat = k from BitVec.eq_of_toNat_eq (by simp)] at this
  rw [this, BitVec.toNat_ofNat, Nat.mod_eq_of_lt (by omega)]
  dsimp only; omega
theorem ttW_lt (k : BitVec 32) (h : k.toNat < 40) : (ttW k).toNat < 10 := by
  have := ttW_eq ⟨k.toNat, h⟩
  rw [show BitVec.ofNat 32 k.toNat = k from BitVec.eq_of_toNat_eq (by simp)] at this
  rw [this, BitVec.toNat_ofNat, Nat.mod_eq_of_lt (by omega)]
  dsimp only; omega

/-! ## The index maps stay inside the arrays -/

theorem te_lt (j : S40.Idx) : (tbl m 2 j : BitVec 32).toNat < 4 := by
  rw [show tbl m 2 = _ from te_eq m]
  exact teW_lt _ (lastT_lt _ _)
theorem tt_lt (j : S40.Idx) : (tbl m 3 j : BitVec 32).toNat < 10 := by
  rw [show tbl m 3 = _ from tt_eq m]
  exact ttW_lt _ (lastT_lt _ _)

theorem nSel (b : BitVec 1) (n : BitVec 32) (hn : n.toNat < 8) : (Scalar.select b n 7#32).toNat < 8 := by
  rcases eq_or_ne b 1#1 with h | h
  · rw [h]; exact hn
  · have : b = 0#1 := by revert b; decide
    rw [this]; exact (by decide : (7#32 : BitVec 32).toNat < 8)

theorem n_lt (i : grid0.Coords) : (BitVec.ofNat 32 (i 1).val).toNat < 8 := by
  have : (i 1).val < 8 := (i 1).isLt
  rw [BitVec.toNat_ofNat, Nat.mod_eq_of_lt (by omega)]; exact this

theorem nAdd : ∀ (c : BitVec 32) (n : BitVec 32), n.toNat < 8 → c.toNat ≤ 8 → (Scalar.addi n c).toNat = n.toNat + c.toNat := fun c n h h' => by
  show (n + c).toNat = _
  rw [BitVec.toNat_add, Nat.mod_eq_of_lt (by omega)]

theorem selAdd (b : BitVec 1) (n c : BitVec 32) (hn : n.toNat < 8) (hc : c.toNat ≤ 8) : ((Scalar.addi (Scalar.select b n 7#32) c).toNat + 1) * 256 ≤ 4096 := by
  rw [nAdd _ _ (nSel b n hn) hc]
  have := nSel b n hn
  omega

theorem blkX (ix : Fin 3 → Nat) (a b : Nat) (h : ix = ![a, b, 0]) (ha : a < 4) (hb : (b + 1) * 256 ≤ 2560) :
    ∃ h : (∀ q, (ix q + 1) * S1x256x7168.size q ≤ S4x2560x7168.size q), EltTy.bits .fp8e4m3 = 32 ∨ (Rect.block (s := S4x2560x7168) S1x256x7168.size ix h).WholeWords (EltTy.packing .fp8e4m3) := by
  subst h
  refine ⟨fun q => ?_, .inr (.inl (.inr ⟨(by decide : 2 ≤ 3), rfl, .inl ⟨?_, ?_⟩⟩))⟩
  rotate_left
  · exact Dvd.dvd.mul_left (show EltTy.packing .fp8e4m3 ∣ 256 by decide) _
  · exact (show EltTy.packing .fp8e4m3 ∣ 256 by decide)
  match q with
  | ⟨0, _⟩ => exact (Nat.mul_one (a + 1)).le.trans ha
  | ⟨1, _⟩ => exact hb
  | ⟨2, _⟩ => exact (Nat.one_mul 7168).le
theorem blkS (ix : Fin 3 → Nat) (a b : Nat) (h : ix = ![a, b, 0]) (ha : a < 4) (hb : (b + 1) * 256 ≤ 2560) :
    ∃ h : (∀ q, (ix q + 1) * S1x256x56.size q ≤ S4x2560x56.size q), EltTy.bits .f32 = 32 ∨ (Rect.block (s := S4x2560x56) S1x256x56.size ix h).WholeWords (EltTy.packing .f32) := by
  subst h
  refine ⟨fun q => ?_, .inl rfl⟩
  match q with
  | ⟨0, _⟩ => exact (Nat.mul_one (a + 1)).le.trans ha
  | ⟨1, _⟩ => exact hb
  | ⟨2, _⟩ => exact (Nat.one_mul 56).le
theorem blkW (ix : Fin 3 → Nat) (a b : Nat) (h : ix = ![a, b, 0]) (ha : a < 4) (hb : (b + 1) * 256 ≤ 4096) :
    ∃ h : (∀ q, (ix q + 1) * S1x256x7168.size q ≤ S4x4096x7168.size q), EltTy.bits .fp8e4m3 = 32 ∨ (Rect.block (s := S4x4096x7168) S1x256x7168.size ix h).WholeWords (EltTy.packing .fp8e4m3) := by
  subst h
  refine ⟨fun q => ?_, .inr (.inl (.inr ⟨(by decide : 2 ≤ 3), rfl, .inl ⟨?_, ?_⟩⟩))⟩
  rotate_left
  · exact Dvd.dvd.mul_left (show EltTy.packing .fp8e4m3 ∣ 256 by decide) _
  · exact (show EltTy.packing .fp8e4m3 ∣ 256 by decide)
  match q with
  | ⟨0, _⟩ => exact (Nat.mul_one (a + 1)).le.trans ha
  | ⟨1, _⟩ => exact hb
  | ⟨2, _⟩ => exact (Nat.one_mul 7168).le

/-- The call's index maps, at the tables the host computes, name blocks inside their arrays. -/
theorem ok : Ok m := by
  refine ⟨fun i => blkX _ _ _ rfl (te_lt m _) (Nat.mul_le_mul_right 256 (tt_lt m _)), fun i => blkS _ _ _ rfl (te_lt m _) (Nat.mul_le_mul_right 256 (tt_lt m _)),
    fun i => blkW _ _ _ rfl (te_lt m _) (selAdd _ _ _ (n_lt i) ?_), fun i => blkW _ _ _ rfl (te_lt m _) (selAdd _ _ _ (n_lt i) ?_)⟩ <;> decide

end Cert.KernelIdeal.Up
-- ==== Proof.Live.lean ====
module

public import proofs.«01_k».proof.Proof.Spec
public import proofs.«01_k».proof.Proof.OkIdeal

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The tables the call is handed: which tiles are live, and the blocks a live tile's steps are given. -/

theorem slt1 (a b : BitVec 32) : IntOp.cmpi .slt a b = 1#1 ↔ a.toInt < b.toInt := by
  rw [← BitVec.slt_iff_toInt_lt]
  show BitVec.ofBool (a.slt b) = 1#1 ↔ _
  cases a.slt b <;> decide

theorem liveT_iff (off cnt : IVec S4x20 32) (j : S40.Idx) (e : Fin 4) (he : e.val = (j 0).val / 10) :
    liveT off cnt j = 1#1 ↔ ∃ r : Fin 20, (off (ix2 e r)).toInt < (BitVec.ofNat 32 ((j 0).val % 10 * 256 + 256)).toInt
      ∧ (BitVec.ofNat 32 ((j 0).val % 10 * 256)).toInt < (off (ix2 e r) + cnt (ix2 e r)).toInt ∧ 0 < (cnt (ix2 e r)).toInt := by
  have hj : (j 0).val < 40 := (j 0).isLt
  obtain ⟨e, he'⟩ := e
  obtain rfl : e = (j 0).val / 10 := he
  have e1 : IntOp.muli (BitVec.ofNat 32 ((j 0).val % 10)) 256#32 = BitVec.ofNat 32 ((j 0).val % 10 * 256) := by
    apply BitVec.eq_of_toNat_eq
    show (BitVec.ofNat 32 ((j 0).val % 10) * 256#32).toNat = _
    simp only [BitVec.toNat_mul, BitVec.toNat_ofNat]
    omega
  have e2 : IntOp.addi (BitVec.ofNat 32 ((j 0).val % 10 * 256)) 256#32 = BitVec.ofNat 32 ((j 0).val % 10 * 256 + 256) := by
    apply BitVec.eq_of_toNat_eq
    show (BitVec.ofNat 32 ((j 0).val % 10 * 256) + 256#32).toNat = _
    simp only [BitVec.toNat_add, BitVec.toNat_ofNat]
    omega
  have fold1 : ∀ (s : Finset (Fin 20)) (g : Fin 20 → BitVec 1), Finset.fold IntOp.ori (0#1) g s = 1#1 ↔ ∃ r ∈ s, g r = 1#1 := by
    intro s g
    induction s using Finset.induction_on with
    | empty => simp
    | insert a s ha ih =>
      rw [Finset.fold_insert ha, ori1, ih]
      simp
  unfold liveT
  pointwise
  rw [e1, e2, fold1]
  simp only [andi1, slt1, Finset.mem_univ, true_and]
  refine exists_congr fun r => ?_
  have sgt1 : ∀ a b : BitVec 32, IntOp.cmpi .sgt a b = 1#1 ↔ b.toInt < a.toInt := fun a b => slt1 b a
  rw [sgt1, sgt1, and_assoc]
  rfl

theorem ofNat_toInt (n : ℕ) (h : n < 10000) : (BitVec.ofNat 32 n).toInt = n := by
  rw [BitVec.toInt_eq_toNat_cond, BitVec.toNat_ofNat, Nat.mod_eq_of_lt (by omega), if_pos (by omega)]

/-- No row of a tile that is not live lies in a rank's range, when no length is negative. -/
theorem dead_row (off cnt : IVec S4x20 32) (hc : ∀ y, 0 ≤ (cnt y).toInt) (j : S40.Idx) (e : Fin 4) (he : e.val = (j 0).val / 10)
    (hd : ¬ liveT off cnt j = 1#1) (p : ℕ) (hp : p < 256) : ¬ liveRow off cnt e ((j 0).val % 10 * 256 + p) = 1#1 := by
  have hj : (j 0).val < 40 := (j 0).isLt
  intro h
  obtain ⟨r, hr, h1, h2⟩ := (liveB_iff _ _ _ _).1 h
  refine hd ((liveT_iff off cnt j e he).2 ⟨Fin.ofNat 20 r, ?_⟩)
  rw [BitVec.sle_iff_toInt_le, ofNat_toInt _ (by omega)] at h1
  rw [BitVec.slt_iff_toInt_lt, ofNat_toInt _ (by omega)] at h2
  rw [ofNat_toInt _ (by omega), ofNat_toInt _ (by omega)]
  refine ⟨by push_cast at h1 ⊢; omega, by push_cast at h2 ⊢; omega, ?_⟩
  refine lt_of_le_of_ne (hc _) fun h0 => ?_
  have z : cnt (ix2 e (Fin.ofNat 20 r)) = 0#32 := BitVec.eq_of_toInt_eq (by rw [← h0]; rfl)
  rw [z, BitVec.add_zero] at h2
  omega

section
variable (m : (ℓ : Loc nD τ sig) → Buf (Elt Ideal) ℓ) (i : grid0.Coords)

/-- The step's row tile is live. -/
def tileLive : Prop := liveT (offM m) (cntM m) (ix1 ⟨(i 0).val, i0_lt i⟩) = 1#1

theorem first_S1 (n : ℕ) (h : n = (i 0).val) (inb : ∀ a, (![n] : Fin 1 → ℕ) a + S1.size a ≤ S40.size a) (z : (Rect.unit (s := S40) ![n] S1.size inb).shape.Idx) :
    (Rect.unit (s := S40) ![n] S1.size inb).emb z = ix1 ⟨(i 0).val, i0_lt i⟩ := by
  funext a
  obtain rfl : a = 0 := Subsingleton.elim _ _
  apply Fin.ext
  have : (z 0).val < 1 := (z 0).isLt
  show n + 1 * (z 0).val = (i 0).val
  omega

theorem word_i0 : (Scalar.indexCast (BitVec.ofNat 32 (i 0).val) : Index).toNat = (i 0).val := by
  have := i0_lt i
  show (BitVec.ofNat 32 (i 0).val).toNat = _
  rw [BitVec.toNat_ofNat, Nat.mod_eq_of_lt (by omega)]

theorem r_eq (f6 : S40.Idx → BitVec 32) (c : Dev nD) : step.sl.r (F := Ideal) c i mTl f6 = f6 (ix1 ⟨(i 0).val, i0_lt i⟩) :=
  congrArg f6 (first_S1 i _ (word_i0 i) _ _)
theorem r1_eq (f6 : S40.Idx → BitVec 32) (c : Dev nD) : step.sl.r_1 (F := Ideal) c i mTl f6 = f6 (ix1 ⟨(i 0).val, i0_lt i⟩) :=
  congrArg f6 (first_S1 i _ (word_i0 i) _ _)

theorem tl_word : (tbl m 4 : S40.Idx → BitVec 32) = extui 32 (liveT (offM m) (cntM m)) natLt_1_32 := tl_eq m

theorem cond_live (c : Dev nD) (h : tileLive m i) : k0_cond3 (step.sl.r_1 (F := Ideal) c i mTl (tbl m 4)) = 1#1
    ∧ ¬ k0_cond1 (step.sl.r (F := Ideal) c i mTl (tbl m 4)) = 1#1 := by
  have e1 : step.sl.r_1 (F := Ideal) c i mTl (tbl m 4) = BitVec.setWidth 32 (liveT (offM m) (cntM m) (ix1 ⟨(i 0).val, i0_lt i⟩)) :=
    (r1_eq i (tbl m 4) c).trans (congrFun (tl_word m) _)
  have e2 : step.sl.r (F := Ideal) c i mTl (tbl m 4) = BitVec.setWidth 32 (liveT (offM m) (cntM m) (ix1 ⟨(i 0).val, i0_lt i⟩)) :=
    (r_eq i (tbl m 4) c).trans (congrFun (tl_word m) _)
  have e3 := h
  unfold tileLive at e3
  rw [e3] at e1 e2
  exact ⟨(congrArg (fun w => k0_cond3 w) e1).trans (by decide), fun h => absurd ((congrArg (fun w => k0_cond1 w) e2).symm.trans h) (by decide)⟩
theorem cond_dead (c : Dev nD) (h : ¬ tileLive m i) : ¬ k0_cond3 (step.sl.r_1 (F := Ideal) c i mTl (tbl m 4)) = 1#1
    ∧ k0_cond1 (step.sl.r (F := Ideal) c i mTl (tbl m 4)) = 1#1 := by
  have e1 : step.sl.r_1 (F := Ideal) c i mTl (tbl m 4) = BitVec.setWidth 32 (liveT (offM m) (cntM m) (ix1 ⟨(i 0).val, i0_lt i⟩)) :=
    (r1_eq i (tbl m 4) c).trans (congrFun (tl_word m) _)
  have e2 : step.sl.r (F := Ideal) c i mTl (tbl m 4) = BitVec.setWidth 32 (liveT (offM m) (cntM m) (ix1 ⟨(i 0).val, i0_lt i⟩)) :=
    (r_eq i (tbl m 4) c).trans (congrFun (tl_word m) _)
  have e3 := (one1 (liveT (offM m) (cntM m) (ix1 ⟨(i 0).val, i0_lt i⟩))).resolve_left h
  skip
  rw [e3] at e1 e2
  exact ⟨fun h => absurd ((congrArg (fun w => k0_cond3 w) e1).symm.trans h) (by decide), (congrArg (fun w => k0_cond1 w) e2).trans (by decide)⟩

theorem cond4_iff : k0_cond4 i = 1#1 ↔ (i 1).val = 0 := by
  have h : ∀ b : Fin 8, (Scalar.cmpi .ne (Scalar.extui (Scalar.cmpi .eq (BitVec.ofNat 32 b.val) 0#32) : BitVec 32) 0#32 = 1#1) ↔ b.val = 0 := by decide +kernel
  exact h ⟨(i 1).val, i1_lt i⟩
theorem cond2_iff : k0_cond2 i = 1#1 ↔ (i 1).val = 0 := cond4_iff i

/-- The blocks the index maps name: at a live tile its own rows and the step's weights, -/
theorem idx_te (h : tileLive m i) : (tbl m 2 (ix1 ⟨(i 0).val, i0_lt i⟩) : BitVec 32).toNat = (i 0).val / 10 := by
  have := i0_lt i
  show (V m 0 main_v28 (ix1 ⟨(i 0).val, i0_lt i⟩) : BitVec 32).toNat = _
  rw [te_eq]
  show (teW (lastT (liveT (offM m) (cntM m)) (ix1 ⟨(i 0).val, i0_lt i⟩))).toNat = _
  rw [lastT_live _ _ h]
  refine (congrArg BitVec.toNat (teW_eq ⟨(i 0).val, i0_lt i⟩)).trans ?_
  rw [BitVec.toNat_ofNat, Nat.mod_eq_of_lt (by dsimp only; omega)]
theorem idx_tt (h : tileLive m i) : (tbl m 3 (ix1 ⟨(i 0).val, i0_lt i⟩) : BitVec 32).toNat = (i 0).val % 10 := by
  have := i0_lt i
  show (V m 0 main_v29 (ix1 ⟨(i 0).val, i0_lt i⟩) : BitVec 32).toNat = _
  rw [tt_eq]
  show (ttW (lastT (liveT (offM m) (cntM m)) (ix1 ⟨(i 0).val, i0_lt i⟩))).toNat = _
  rw [lastT_live _ _ h]
  refine (congrArg BitVec.toNat (ttW_eq ⟨(i 0).val, i0_lt i⟩)).trans ?_
  rw [BitVec.toNat_ofNat, Nat.mod_eq_of_lt (by dsimp only; omega)]

theorem idx1 (h : tileLive m i) : cc0_transform_1 k0_off1_inb numel1_S1 (tbl m) i = ![(i 0).val / 10, (i 0).val % 10, 0] := by
  have e := first_S1 i _ (word_i0 i)
  refine Eq.trans (b := ![(tbl m 2 (ix1 ⟨(i 0).val, i0_lt i⟩) : BitVec 32).toNat, (tbl m 3 (ix1 ⟨(i 0).val, i0_lt i⟩) : BitVec 32).toNat, 0]) ?_ (by rw [idx_te m i h, idx_tt m i h])
  exact congrArg₂ (fun a b => ![BitVec.toNat a, BitVec.toNat b, 0]) (congrArg (tbl m 2) (e _ _)) (congrArg (tbl m 3) (e _ _))
theorem idx2 (h : tileLive m i) : cc0_transform_2 k0_off1_inb numel1_S1 (tbl m) i = ![(i 0).val / 10, (i 0).val % 10, 0] := idx1 m i h

theorem sel_n (h : tileLive m i) : Scalar.select (Scalar.cmpi .eq (tbl m 4 (ix1 ⟨(i 0).val, i0_lt i⟩) : BitVec 32) 1#32) (BitVec.ofNat 32 (i 1).val) 7#32 = BitVec.ofNat 32 (i 1).val := by
  rw [tl_word]
  show Scalar.select (Scalar.cmpi .eq (BitVec.setWidth 32 (liveT (offM m) (cntM m) _)) 1#32) _ _ = _
  rw [show liveT (offM m) (cntM m) _ = 1#1 from h]
  exact if_pos (by decide)
theorem idx3 (h : tileLive m i) : cc0_transform_3 k0_off1_inb numel1_S1 (tbl m) i = ![(i 0).val / 10, (i 1).val, 0] := by
  have := i1_lt i
  have e := first_S1 i _ (word_i0 i)
  refine Eq.trans (b := ![(tbl m 2 (ix1 ⟨(i 0).val, i0_lt i⟩) : BitVec 32).toNat, (Scalar.addi (Scalar.select (Scalar.cmpi .eq (tbl m 4 (ix1 ⟨(i 0).val, i0_lt i⟩) : BitVec 32) 1#32) (BitVec.ofNat 32 (i 1).val) 7#32) 0#32).toNat, 0]) ?_ ?_
  · exact congrArg₂ (fun a b => ![BitVec.toNat a, BitVec.toNat (Scalar.addi (Scalar.select (Scalar.cmpi .eq b 1#32) (BitVec.ofNat 32 (i 1).val) 7#32) 0#32), 0]) (congrArg (tbl m 2) (e _ _)) (congrArg (tbl m 4) (e _ _))
  · rw [idx_te m i h, sel_n m i h]
    rw [show (Scalar.addi (BitVec.ofNat 32 (i 1).val) 0#32).toNat = (i 1).val from by
      show (BitVec.ofNat 32 (i 1).val + 0#32).toNat = _
      rw [BitVec.toNat_add, BitVec.toNat_ofNat, BitVec.toNat_ofNat]; omega]
theorem idx4 (h : tileLive m i) : cc0_transform_4 k0_off1_inb numel1_S1 (tbl m) i = ![(i 0).val / 10, (i 1).val + 8, 0] := by
  have := i1_lt i
  have e := first_S1 i _ (word_i0 i)
  refine Eq.trans (b := ![(tbl m 2 (ix1 ⟨(i 0).val, i0_lt i⟩) : BitVec 32).toNat, (Scalar.addi (Scalar.select (Scalar.cmpi .eq (tbl m 4 (ix1 ⟨(i 0).val, i0_lt i⟩) : BitVec 32) 1#32) (BitVec.ofNat 32 (i 1).val) 7#32) 8#32).toNat, 0]) ?_ ?_
  · exact congrArg₂ (fun a b => ![BitVec.toNat a, BitVec.toNat (Scalar.addi (Scalar.select (Scalar.cmpi .eq b 1#32) (BitVec.ofNat 32 (i 1).val) 7#32) 8#32), 0]) (congrArg (tbl m 2) (e _ _)) (congrArg (tbl m 4) (e _ _))
  · rw [idx_te m i h, sel_n m i h]
    rw [show (Scalar.addi (BitVec.ofNat 32 (i 1).val) 8#32).toNat = (i 1).val + 8 from by
      show (BitVec.ofNat 32 (i 1).val + 8#32).toNat = _
      rw [BitVec.toNat_add, BitVec.toNat_ofNat, BitVec.toNat_ofNat]; omega]

/-- and the results' blocks at every tile. -/
theorem expert_nat : (expertW (BitVec.ofNat 32 (i 0).val)).toNat = (i 0).val / 10 := by
  have := i0_lt i
  rw [expertW_eq, BitVec.toNat_ofNat, Nat.mod_eq_of_lt (by omega)]
theorem tile_nat : (tileW (BitVec.ofNat 32 (i 0).val)).toNat = (i 0).val % 10 := by
  have := i0_lt i
  refine (congrArg BitVec.toNat (tileW_fin ⟨(i 0).val, i0_lt i⟩)).trans ?_
  rw [BitVec.toNat_ofNat, Nat.mod_eq_of_lt (by dsimp only; omega)]
theorem n_nat : (BitVec.ofNat 32 (i 1).val).toNat = (i 1).val := by
  have := i1_lt i
  rw [BitVec.toNat_ofNat, Nat.mod_eq_of_lt (by omega)]
theorem idx6 : cc0_transform_6 i = ![(i 0).val / 10, (i 0).val % 10, 0] := by
  refine Eq.trans (b := ![(expertW (BitVec.ofNat 32 (i 0).val)).toNat, (tileW (BitVec.ofNat 32 (i 0).val)).toNat, 0]) rfl ?_
  rw [expert_nat, tile_nat]
theorem idx5 : cc0_transform_5 i = ![(i 0).val / 10, (i 0).val % 10, (i 1).val] := by
  refine Eq.trans (b := ![(expertW (BitVec.ofNat 32 (i 0).val)).toNat, (tileW (BitVec.ofNat 32 (i 0).val)).toNat, (BitVec.ofNat 32 (i 1).val).toNat]) rfl ?_
  rw [expert_nat, tile_nat, n_nat]
end

end Cert.KernelIdeal.Up

end
-- ==== Proof.Blocks.lean ====
module

public import proofs.«01_k».proof.Proof.Live
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The blocks of the arrays a live tile's steps are given, entry by entry. -/

section
variable (m : (ℓ : Loc nD τ sig) → Buf (Elt Ideal) ℓ)

/-- The float arguments. -/
abbrev m_arg0 : S4x2560x7168.Idx → EReal := m (0, Proc.devRef .tc main_arg0)
abbrev m_arg1 : S4x2560x56.Idx → EReal := m (0, Proc.devRef .tc main_arg1)
abbrev m_arg4 : S4x4096x7168.Idx → EReal := m (0, Proc.devRef .tc main_arg4)
abbrev m_arg5 : S4x32x56.Idx → EReal := m (0, Proc.devRef .tc main_arg5)

/-- The expert of a grid point. -/
def eOf (i : grid0.Coords) : Fin 4 := ⟨(i 0).val / 10, by have := i0_lt i; omega⟩

variable (hO : Ok m) (c : Dev nD) (t : Fin (cfgM m hO).N)

set_option maxHeartbeats 4000000 in
/-- The activations. -/
theorem iblk1_eq (h : tileLive m (grid0.coords t)) (y : S1x256x7168.Idx) :
    (iblk m hO c 1 t : S1x256x7168.Idx → EReal) y = m_arg0 m (ix3 (eOf (grid0.coords t)) (Fin.ofNat 2560 ((grid0.coords t 0).val % 10 * 256 + (y 1).val)) (y 2)) := by
  have e := idx1 m (grid0.coords t) h
  have h0 : (grid0.coords t 0).val < 40 := i0_lt _
  have h7 : (grid0.coords t 1).val < 8 := i1_lt _
  have hy0 : (y 0).val < 1 := (y 0).isLt
  have hy1 : (y 1).val < 256 := (y 1).isLt
  have h1 : (iblk m hO c 1 t : S1x256x7168.Idx → EReal) y = (V m c main_arg0 : S4x2560x7168.Idx → EReal) ((((cfgM m hO).win 1).rect t).emb y) := rfl
  have h2 : ∀ a : Fin 3, ((((cfgM m hO).win 1).rect t).emb y a).val = cc0_transform_1 k0_off1_inb numel1_S1 (tbl m) (grid0.coords t) a * S1x256x7168.size a + (y a).val :=
    fun a => ((cfgM m hO).win 1).rect_emb_val t y a
  rw [h1, V_main_arg0]
  obtain rfl : c = 0 := Subsingleton.elim _ _
  refine congrArg (m_arg0 m) ?_
  funext a
  apply Fin.ext
  refine (h2 a).trans ?_
  rw [e]
  match a with
  | ⟨0, _⟩ => show (grid0.coords t 0).val / 10 * 1 + (y 0).val = (grid0.coords t 0).val / 10; omega
  | ⟨1, _⟩ => show (grid0.coords t 0).val % 10 * 256 + (y 1).val = ((grid0.coords t 0).val % 10 * 256 + (y 1).val) % 2560; omega
  | ⟨2, _⟩ => show 0 * 7168 + (y 2).val = (y 2).val; omega

set_option maxHeartbeats 4000000 in
/-- Their scales. -/
theorem iblk2_eq (h : tileLive m (grid0.coords t)) (y : S1x256x56.Idx) :
    (iblk m hO c 2 t : S1x256x56.Idx → EReal) y = m_arg1 m (ix3 (eOf (grid0.coords t)) (Fin.ofNat 2560 ((grid0.coords t 0).val % 10 * 256 + (y 1).val)) (y 2)) := by
  have e := idx2 m (grid0.coords t) h
  have h0 : (grid0.coords t 0).val < 40 := i0_lt _
  have h7 : (grid0.coords t 1).val < 8 := i1_lt _
  have hy0 : (y 0).val < 1 := (y 0).isLt
  have hy1 : (y 1).val < 256 := (y 1).isLt
  have h1 : (iblk m hO c 2 t : S1x256x56.Idx → EReal) y = (V m c main_arg1 : S4x2560x56.Idx → EReal) ((((cfgM m hO).win 2).rect t).emb y) := rfl
  have h2 : ∀ a : Fin 3, ((((cfgM m hO).win 2).rect t).emb y a).val = cc0_transform_2 k0_off1_inb numel1_S1 (tbl m) (grid0.coords t) a * S1x256x56.size a + (y a).val :=
    fun a => ((cfgM m hO).win 2).rect_emb_val t y a
  rw [h1, V_main_arg1]
  obtain rfl : c = 0 := Subsingleton.elim _ _
  refine congrArg (m_arg1 m) ?_
  funext a
  apply Fin.ext
  refine (h2 a).trans ?_
  rw [e]
  match a with
  | ⟨0, _⟩ => show (grid0.coords t 0).val / 10 * 1 + (y 0).val = (grid0.coords t 0).val / 10; omega
  | ⟨1, _⟩ => show (grid0.coords t 0).val % 10 * 256 + (y 1).val = ((grid0.coords t 0).val % 10 * 256 + (y 1).val) % 2560; omega
  | ⟨2, _⟩ => show 0 * 56 + (y 2).val = (y 2).val; omega

end

end Cert.KernelIdeal.Up

end
-- ==== Proof.BlocksW.lean ====
module

public import proofs.«01_k».proof.Proof.Blocks
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! The blocks of the weights a live tile's steps are given, entry by entry. -/

section
variable (m : (ℓ : Loc nD τ sig) → Buf (Elt Ideal) ℓ) (hO : Ok m) (c : Dev nD) (t : Fin (cfgM m hO).N)

set_option maxHeartbeats 4000000 in
/-- The gate half. -/
theorem iblk3_eq (h : tileLive m (grid0.coords t)) (y : S1x256x7168.Idx) :
    (iblk m hO c 3 t : S1x256x7168.Idx → EReal) y = m_arg4 m (ix3 (eOf (grid0.coords t)) (Fin.ofNat 4096 ((grid0.coords t 1).val * 256 + (y 1).val)) (y 2)) := by
  have e := idx3 m (grid0.coords t) h
  have h0 : (grid0.coords t 0).val < 40 := i0_lt _
  have h7 : (grid0.coords t 1).val < 8 := i1_lt _
  have hy0 : (y 0).val < 1 := (y 0).isLt
  have hy1 : (y 1).val < 256 := (y 1).isLt
  have h1 : (iblk m hO c 3 t : S1x256x7168.Idx → EReal) y = (V m c main_arg4 : S4x4096x7168.Idx → EReal) ((((cfgM m hO).win 3).rect t).emb y) := rfl
  have h2 : ∀ a : Fin 3, ((((cfgM m hO).win 3).rect t).emb y a).val = cc0_transform_3 k0_off1_inb numel1_S1 (tbl m) (grid0.coords t) a * S1x256x7168.size a + (y a).val :=
    fun a => ((cfgM m hO).win 3).rect_emb_val t y a
  rw [h1, V_main_arg4]
  obtain rfl : c = 0 := Subsingleton.elim _ _
  refine congrArg (m_arg4 m) ?_
  funext a
  apply Fin.ext
  refine (h2 a).trans ?_
  rw [e]
  match a with
  | ⟨0, _⟩ => show (grid0.coords t 0).val / 10 * 1 + (y 0).val = (grid0.coords t 0).val / 10; omega
  | ⟨1, _⟩ => show (grid0.coords t 1).val * 256 + (y 1).val = ((grid0.coords t 1).val * 256 + (y 1).val) % 4096; omega
  | ⟨2, _⟩ => show 0 * 7168 + (y 2).val = (y 2).val; omega

set_option maxHeartbeats 4000000 in
/-- The up half. -/
theorem iblk4_eq (h : tileLive m (grid0.coords t)) (y : S1x256x7168.Idx) :
    (iblk m hO c 4 t : S1x256x7168.Idx → EReal) y = m_arg4 m (ix3 (eOf (grid0.coords t)) (Fin.ofNat 4096 (((grid0.coords t 1).val + 8) * 256 + (y 1).val)) (y 2)) := by
  have e := idx4 m (grid0.coords t) h
  have h0 : (grid0.coords t 0).val < 40 := i0_lt _
  have h7 : (grid0.coords t 1).val < 8 := i1_lt _
  have hy0 : (y 0).val < 1 := (y 0).isLt
  have hy1 : (y 1).val < 256 := (y 1).isLt
  have h1 : (iblk m hO c 4 t : S1x256x7168.Idx → EReal) y = (V m c main_arg4 : S4x4096x7168.Idx → EReal) ((((cfgM m hO).win 4).rect t).emb y) := rfl
  have h2 : ∀ a : Fin 3, ((((cfgM m hO).win 4).rect t).emb y a).val = cc0_transform_4 k0_off1_inb numel1_S1 (tbl m) (grid0.coords t) a * S1x256x7168.size a + (y a).val :=
    fun a => ((cfgM m hO).win 4).rect_emb_val t y a
  rw [h1, V_main_arg4]
  obtain rfl : c = 0 := Subsingleton.elim _ _
  refine congrArg (m_arg4 m) ?_
  funext a
  apply Fin.ext
  refine (h2 a).trans ?_
  rw [e]
  match a with
  | ⟨0, _⟩ => show (grid0.coords t 0).val / 10 * 1 + (y 0).val = (grid0.coords t 0).val / 10; omega
  | ⟨1, _⟩ => show ((grid0.coords t 1).val + 8) * 256 + (y 1).val = (((grid0.coords t 1).val + 8) * 256 + (y 1).val) % 4096; omega
  | ⟨2, _⟩ => show 0 * 7168 + (y 2).val = (y 2).val; omega

set_option maxHeartbeats 4000000 in
/-- The scale table is the array of the weights' scales, row by row. -/
theorem iblk0_eq : (iblk m hO c 0 t : S7168.Idx → EReal) = shapeCast S7168 (m_arg5 m) shapeCasts_S4x32x56_S7168 := by
  obtain rfl : c = 0 := Subsingleton.elim _ _
  have h1 : ∀ y, (iblk m hO 0 0 t : S7168.Idx → EReal) y = (V m 0 main_v33 : S7168.Idx → EReal) ((((cfgM m hO).win 0).rect t).emb y) := fun _ => rfl
  have h2 : ∀ (y : S7168.Idx) (a : Fin 1), ((((cfgM m hO).win 0).rect t).emb y a).val = cc0_transform_0 (grid0.coords t) a * S7168.size a + (y a).val :=
    fun y a => ((cfgM m hO).win 0).rect_emb_val t y a
  refine funext (α := S7168.Idx) fun y => ?_
  rw [h1 y, s13_eq]
  refine congrArg (shapeCast S7168 (m_arg5 m) shapeCasts_S4x32x56_S7168) ?_
  funext a
  apply Fin.ext
  refine (h2 y a).trans ?_
  match a with
  | ⟨0, _⟩ => show 0 * 7168 + (y 0).val = (y 0).val; omega

/-- The scale table at the position of a block of weights. -/
theorem nat1_eq (e r b : ℕ) (he : e < 4) (hr : r < 32) (hb : b < 56) :
    nat1 (shapeCast S7168 (m_arg5 m) shapeCasts_S4x32x56_S7168) (e * 1792 + r * 56 + b) = m_arg5 m (ix3 (Fin.ofNat 4 e) (Fin.ofNat 32 r) (Fin.ofNat 56 b)) := by
  unfold nat1
  pointwise
  refine congrArg (m_arg5 m) ?_
  have hv : (Fin.ofNat 7168 (e * 1792 + r * 56 + b)).val = e * 1792 + r * 56 + b := Nat.mod_eq_of_lt (by omega)
  funext a
  apply Fin.ext
  match a with
  | ⟨0, _⟩ => show (Fin.ofNat 7168 (e * 1792 + r * 56 + b)).val / 1792 = e % 4; omega
  | ⟨1, _⟩ => show (Fin.ofNat 7168 (e * 1792 + r * 56 + b)).val / 56 % 32 = r % 32; omega
  | ⟨2, _⟩ => show (Fin.ofNat 7168 (e * 1792 + r * 56 + b)).val % 56 = b % 56; omega

end

end Cert.KernelIdeal.Up

end
-- ==== Proof.Tile.lean ====
module

public import proofs.«01_k».proof.Proof.BlocksW

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! A live tile's step: what its scratch arrays hold, as the spec's activations and weights. -/

section
variable (m : (ℓ : Loc nD τ sig) → Buf (Elt Ideal) ℓ)

theorem nat80_off (e r : ℕ) (he : e < 4) (hr : r < 20) :
    nat80 (tbl m 0) (e * 20 + r) = offM m (ix2 (Fin.ofNat 4 e) (Fin.ofNat 20 r)) := by
  have h : (tbl m 0 : S80.Idx → BitVec 32) = shapeCast S80 (offM m) shapeCasts_S4x20_S80 := off_eq m
  rw [h]
  unfold nat80
  pointwise
  refine congrArg (offM m) ?_
  have hv : (Fin.ofNat 80 (e * 20 + r)).val = e * 20 + r := Nat.mod_eq_of_lt (by omega)
  funext a
  apply Fin.ext
  match a with
  | ⟨0, _⟩ => show (Fin.ofNat 80 (e * 20 + r)).val / 20 = e % 4; omega
  | ⟨1, _⟩ => show (Fin.ofNat 80 (e * 20 + r)).val % 20 = r % 20; omega
theorem nat80_cnt (e r : ℕ) (he : e < 4) (hr : r < 20) :
    nat80 (tbl m 1) (e * 20 + r) = cntM m (ix2 (Fin.ofNat 4 e) (Fin.ofNat 20 r)) := by
  have h : (tbl m 1 : S80.Idx → BitVec 32) = shapeCast S80 (cntM m) shapeCasts_S4x20_S80 := cnt_eq m
  rw [h]
  unfold nat80
  pointwise
  refine congrArg (cntM m) ?_
  have hv : (Fin.ofNat 80 (e * 20 + r)).val = e * 20 + r := Nat.mod_eq_of_lt (by omega)
  funext a
  apply Fin.ext
  match a with
  | ⟨0, _⟩ => show (Fin.ofNat 80 (e * 20 + r)).val / 20 = e % 4; omega
  | ⟨1, _⟩ => show (Fin.ofNat 80 (e * 20 + r)).val % 20 = r % 20; omega

theorem liveRow_eq (i : grid0.Coords) (x : ℕ) :
    liveB (BitVec.ofNat 32 x) (fun r => nat80 (tbl m 0) ((i 0).val / 10 * 20 + r)) (fun r => nat80 (tbl m 1) ((i 0).val / 10 * 20 + r)) 20 = liveRow (offM m) (cntM m) (eOf i) x := by
  have := i0_lt i
  have he : Fin.ofNat 4 ((i 0).val / 10) = eOf i := Fin.ext (Nat.mod_eq_of_lt (by omega))
  unfold liveRow
  refine liveB_congr _ _ _ _ _ _ fun r hr => ⟨?_, ?_⟩
  · rw [nat80_off m _ r (by omega) hr, he]
  · rw [nat80_cnt m _ r (by omega) hr, he]

/-- The spec's data at the arguments of the memory. -/
abbrev mX (e : Fin 4) (r : ℕ) (k : Fin 7168) : EReal := xAt (m_arg0 m) (m_arg1 m) (offM m) (cntM m) e r k
abbrev mWt (e : Fin 4) (f : ℕ) (k : Fin 7168) : EReal := wAt (m_arg4 m) (m_arg5 m) e f k

/-- The activations of the tile of a grid point. -/
def xTile (i : grid0.Coords) : S256x7168.Idx → EReal := fun q => mX m (eOf i) ((i 0).val % 10 * 256 + (q 0).val) (q 1)

variable (hO : Ok m) (c : Dev nD) (t : Fin (cfgM m hO).N) (h : tileLive m (grid0.coords t))
include h

theorem xNew_eq (M8 : Memref sig .tc .vmem S1x256x7168 .fp8e4m3) (M9 : Memref sig .tc .vmem S1x256x56 .f32) (f8 : Bf (F := Ideal) c M8) (f9 : Bf (F := Ideal) c M9)
    (h8 : M8.view.read (Elt Ideal) f8 = iblk m hO c 1 t) (h9 : M9.view.read (Elt Ideal) f9 = iblk m hO c 2 t) :
    xNew c (grid0.coords t) mOff mCnt (tbl m 0) (tbl m 1) M8 M9 f8 f9 = xTile m (grid0.coords t) := by
  funext q
  have hq : (q 0).val < 256 := (q 0).isLt
  unfold xNew xTile mX xAt
  refine if_congr (iff_of_eq (congrArg (· = 1#1) (liveRow_eq m (grid0.coords t) _))) (congrArg₂ (· * ·) ?_ ?_) rfl
  · exact (congrFun h8 _).trans (iblk1_eq m hO c t h _)
  · exact (congrFun h9 _).trans (iblk2_eq m hO c t h _)

theorem wNew_eq (M7 : Memref sig .tc .smem S7168 .f32) (M10 M11 : Memref sig .tc .vmem S1x256x7168 .fp8e4m3) (f7 : Bf (F := Ideal) c M7) (f10 : Bf (F := Ideal) c M10) (f11 : Bf (F := Ideal) c M11)
    (h7 : M7.view.read (Elt Ideal) f7 = iblk m hO c 0 t) (h10 : M10.view.read (Elt Ideal) f10 = iblk m hO c 3 t) (h11 : M11.view.read (Elt Ideal) f11 = iblk m hO c 4 t)
    (q : ℕ) (hq : q < 512) (k : Fin 7168) :
    wNew c (grid0.coords t) M7 M10 M11 f7 f10 f11 (ix2 (Fin.ofNat 512 q) k) =
      if q < 256 then mWt m (eOf (grid0.coords t)) (256 * (grid0.coords t 1).val + q) k else mWt m (eOf (grid0.coords t)) (2048 + (256 * (grid0.coords t 1).val + (q - 256))) k := by
  have h0 : (grid0.coords t 0).val < 40 := i0_lt _
  have h1 : (grid0.coords t 1).val < 8 := i1_lt _
  have hk : k.val < 7168 := k.isLt
  have hv : (Fin.ofNat 512 q).val = q := Nat.mod_eq_of_lt hq
  have he : Fin.ofNat 4 ((grid0.coords t 0).val / 10) = eOf (grid0.coords t) := Fin.ext (Nat.mod_eq_of_lt (by omega))
  have h7' := h7.trans (iblk0_eq m hO c t)
  unfold wNew wBlk mWt wAt sBase
  rw [h7']
  by_cases hs : q < 256
  case pos =>
    rw [if_pos (by rw [show ((ix2 (Fin.ofNat 512 q) k : S512x7168.Idx) 0) = Fin.ofNat 512 q from rfl, hv]; exact hs), if_pos hs]
    rw [show ((ix2 (Fin.ofNat 512 q) k : S512x7168.Idx) 0) = Fin.ofNat 512 q from rfl, show ((ix2 (Fin.ofNat 512 q) k : S512x7168.Idx) 1) = k from rfl, hv]
    have hm : (Fin.ofNat 256 q).val = q := Nat.mod_eq_of_lt hs
    refine congrArg₂ (· * ·) ((congrFun h10 _).trans ((iblk3_eq m hO c t h _).trans ?_)) ?_
    · rw [show (grid0.coords t 1).val * 256 + ((ix3 0 (Fin.ofNat 256 q) k : S1x256x7168.Idx) 1).val = 256 * (grid0.coords t 1).val + q by
        rw [show ((ix3 0 (Fin.ofNat 256 q) k : S1x256x7168.Idx) 1) = Fin.ofNat 256 q from rfl, hm]; omega]
      rfl
    · rw [show (grid0.coords t 0).val / 10 * 1792 + (grid0.coords t 1).val * 112 + q / 128 * 56 + k.val / 128 =
        (grid0.coords t 0).val / 10 * 1792 + ((256 * (grid0.coords t 1).val + q) / 128) * 56 + k.val / 128 by omega,
        nat1_eq m _ _ _ (by omega) (by omega) (by omega), he]
  case neg =>
    rw [if_neg (by rw [show ((ix2 (Fin.ofNat 512 q) k : S512x7168.Idx) 0) = Fin.ofNat 512 q from rfl, hv]; exact hs), if_neg hs]
    rw [show ((ix2 (Fin.ofNat 512 q) k : S512x7168.Idx) 0) = Fin.ofNat 512 q from rfl, show ((ix2 (Fin.ofNat 512 q) k : S512x7168.Idx) 1) = k from rfl, hv]
    have hm : (Fin.ofNat 256 (q - 256)).val = q - 256 := Nat.mod_eq_of_lt (by omega)
    refine congrArg₂ (· * ·) ((congrFun h11 _).trans ((iblk4_eq m hO c t h _).trans ?_)) ?_
    · rw [show ((grid0.coords t 1).val + 8) * 256 + ((ix3 0 (Fin.ofNat 256 (q - 256)) k : S1x256x7168.Idx) 1).val = 2048 + (256 * (grid0.coords t 1).val + (q - 256)) by
        rw [show ((ix3 0 (Fin.ofNat 256 (q - 256)) k : S1x256x7168.Idx) 1) = Fin.ofNat 256 (q - 256) from rfl, hm]; omega]
      rfl
    · rw [show (grid0.coords t 0).val / 10 * 1792 + (grid0.coords t 1).val * 112 + 896 + (q - 256) / 128 * 56 + k.val / 128 =
        (grid0.coords t 0).val / 10 * 1792 + ((2048 + (256 * (grid0.coords t 1).val + (q - 256))) / 128) * 56 + k.val / 128 by omega,
        nat1_eq m _ _ _ (by omega) (by omega) (by omega), he]
end

end Cert.KernelIdeal.Up

end
-- ==== Proof.Steps.lean ====
module

public import proofs.«01_k».proof.Proof.Tile

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise

/-! What one grid step leaves in the results' blocks and in the activations' scratch array, from what it found. -/

section
variable (m : (ℓ : Loc nD τ sig) → Buf (Elt Ideal) ℓ)

/-- The two results at the arguments of the memory. -/
def mCodes : S4x2560x2048.Idx → EReal := codes (m_arg0 m) (m_arg1 m) (offM m) (cntM m) (m_arg4 m) (m_arg5 m)
def mScales : S4x2560x16.Idx → EReal := scales (m_arg0 m) (m_arg1 m) (offM m) (cntM m) (m_arg4 m) (m_arg5 m)

/-- What the blocks of the results hold after the step at a grid point: all of the step's codes, -/
def at5 (i : grid0.Coords) : S1x256x256.Idx → EReal := fun y =>
  mCodes m (ix3 (eOf i) (Fin.ofNat 2560 ((i 0).val % 10 * 256 + (y 1).val)) (Fin.ofNat 2048 (256 * (i 1).val + (y 2).val)))
/-- and the scales of the steps so far, ones beyond. -/
def at6 (i : grid0.Coords) (n : ℕ) : S1x256x16.Idx → EReal := fun y =>
  if (y 2).val < 2 * n then mScales m (ix3 (eOf i) (Fin.ofNat 2560 ((i 0).val % 10 * 256 + (y 1).val)) (y 2)) else 1

section
variable (hc : ∀ y, 0 ≤ (cntM m y).toInt) (i : grid0.Coords) (hd : ¬ tileLive m i)
include hc hd
theorem row_dead (p : ℕ) (hp : p < 256) : ¬ liveRow (offM m) (cntM m) (eOf i) ((Fin.ofNat 2560 ((i 0).val % 10 * 256 + p)).val) = 1#1 := by
  have h0 := i0_lt i
  have hm : (Fin.ofNat 2560 ((i 0).val % 10 * 256 + p)).val = (i 0).val % 10 * 256 + p := Nat.mod_eq_of_lt (by omega)
  rw [hm]
  exact dead_row (offM m) (cntM m) hc (ix1 ⟨(i 0).val, i0_lt i⟩) (eOf i) rfl hd p hp
theorem at5_dead : at5 m i = fun _ => 0 := by
  funext y
  exact codes_dead _ _ _ _ _ _ _ (row_dead m hc i hd _ (y 1).isLt)
theorem at6_dead (n : ℕ) : at6 m i n = fun _ => 1 := by
  funext y
  unfold at6
  rw [show mScales m (ix3 (eOf i) (Fin.ofNat 2560 ((i 0).val % 10 * 256 + (y 1).val)) (y 2)) = 1 from
    scales_dead _ _ _ _ _ _ _ (row_dead m hc i hd _ (y 1).isLt), ite_self]
end

theorem tileLive_congr (i j : grid0.Coords) (h : (i 0).val = (j 0).val) : tileLive m i ↔ tileLive m j := by
  unfold tileLive
  rw [show (⟨(i 0).val, i0_lt i⟩ : Fin 40) = ⟨(j 0).val, i0_lt j⟩ from Fin.ext h]
theorem eOf_congr (i j : grid0.Coords) (h : (i 0).val = (j 0).val) : eOf i = eOf j := Fin.ext (congrArg (· / 10) h)
theorem xTile_congr (i j : grid0.Coords) (h : (i 0).val = (j 0).val) : xTile m i = xTile m j := by
  unfold xTile; rw [eOf_congr i j h, h]
theorem at6_congr (i j : grid0.Coords) (h : (i 0).val = (j 0).val) (n : ℕ) : at6 m i n = at6 m j n := by
  unfold at6; rw [eOf_congr i j h, h]

variable (hc : ∀ y, 0 ≤ (cntM m y).toInt) (hO : Ok m) (c : Dev nD) (t : Fin (cfgM m hO).N)
    (M7 : Memref sig .tc .smem S7168 .f32) (h7 : M7.IsWhole)
    (M8 : Memref sig .tc .vmem S1x256x7168 .fp8e4m3) (h8 : M8.IsWhole)
    (M9 : Memref sig .tc .vmem S1x256x56 .f32) (h9 : M9.IsWhole)
    (M10 : Memref sig .tc .vmem S1x256x7168 .fp8e4m3) (h10 : M10.IsWhole)
    (M11 : Memref sig .tc .vmem S1x256x7168 .fp8e4m3) (h11 : M11.IsWhole)
    (M12 : Memref sig .tc .vmem S1x256x256 .fp8e4m3) (h12 : M12.IsWhole)
    (M13 : Memref sig .tc .vmem S1x256x16 .f32) (h13 : M13.IsWhole)
    (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c mXb) (f15 : Bf (F := Ideal) c mW)
    (r7 : M7.view.read (Elt Ideal) f7 = iblk m hO c 0 t) (r8 : M8.view.read (Elt Ideal) f8 = iblk m hO c 1 t) (r9 : M9.view.read (Elt Ideal) f9 = iblk m hO c 2 t)
    (r10 : M10.view.read (Elt Ideal) f10 = iblk m hO c 3 t) (r11 : M11.view.read (Elt Ideal) f11 = iblk m hO c 4 t)
    (r14 : (grid0.coords t 1).val ≠ 0 → tileLive m (grid0.coords t) → mXb.view.read (Elt Ideal) f14 = xTile m (grid0.coords t))
    (r13 : (grid0.coords t 1).val ≠ 0 → M13.view.read (Elt Ideal) f13 = at6 m (grid0.coords t) (grid0.coords t 1).val)

include r8 r9 r14 in
theorem x_val (hl : tileLive m (grid0.coords t)) :
    step.sl.v2959 (F := Ideal) c (grid0.coords t) mOff mCnt M8 M9 mXb (tbl m 0) (tbl m 1) f8 f9 f14 = xTile m (grid0.coords t) := by
  by_cases h : (grid0.coords t 1).val = 0
  · exact (x_read c (grid0.coords t) mOff mCnt (tbl m 0) (tbl m 1) M8 M9 f8 f9 ((cond4_iff _).2 h) mXb f14).trans (xNew_eq m hO c t hl M8 M9 f8 f9 r8 r9)
  · exact (x_read_later c (grid0.coords t) mOff mCnt (tbl m 0) (tbl m 1) M8 M9 f8 f9 (fun hh => h ((cond4_iff _).1 hh)) mXb f14).trans (r14 h hl)

include r8 r9 r14 in
/-- The activations' scratch array. -/
theorem step14 (hl : tileLive m (grid0.coords t)) :
    mXb.view.read (Elt Ideal) ((step (F := Ideal) c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15).1.2.2.1) = xTile m (grid0.coords t) :=
  (xb_live c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15 (cond_live m _ c hl).1).trans (x_val m hO c t M8 M9 f8 f9 f14 r8 r9 r14 hl)

include r7 r8 r9 r10 r11 r14 in
theorem step_hb (hl : tileLive m (grid0.coords t)) (p : Fin 256) (b : ℕ) (hb' : b < 2) :
    hb (step.sl.v2959 (F := Ideal) c (grid0.coords t) mOff mCnt M8 M9 mXb (tbl m 0) (tbl m 1) f8 f9 f14) (step.sl.v2960 (F := Ideal) c (grid0.coords t) M7 M10 M11 mW f7 f10 f11) p b
      = hBlk (m_arg0 m) (m_arg1 m) (offM m) (cntM m) (m_arg4 m) (m_arg5 m) (eOf (grid0.coords t)) ((grid0.coords t 0).val % 10 * 256 + p.val) (2 * (grid0.coords t 1).val + b) := by
  rw [x_val m hO c t M8 M9 f8 f9 f14 r8 r9 r14 hl, w_read]
  exact hb_eq (eOf (grid0.coords t)) _ (grid0.coords t 1).val _ _ (fun p k => rfl) (fun q hq k => wNew_eq m hO c t hl M7 M10 M11 f7 f10 f11 r7 r10 r11 q hq k) p b hb'

include r7 r8 r9 r10 r11 r14 hc in
/-- The codes' block. -/
theorem step5 : M12.view.read (Elt Ideal) ((step (F := Ideal) c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15).1.1) = at5 m (grid0.coords t) := by
  have h0 : (grid0.coords t 0).val < 40 := i0_lt _
  have h1 : (grid0.coords t 1).val < 8 := i1_lt _
  by_cases hl : tileLive m (grid0.coords t)
  · funext y
    have hy1 : (y 1).val < 256 := (y 1).isLt
    have hy2 : (y 2).val < 256 := (y 2).isLt
    refine (hc_live c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15 (cond_live m _ c hl).1 y).trans ?_
    rw [step_hb m hO c t M7 M8 M9 M10 M11 f7 f8 f9 f10 f11 f14 r7 r8 r9 r10 r11 r14 hl (y 1) _ (by omega)]
    have e2 : hOf (step.sl.v2959 (F := Ideal) c (grid0.coords t) mOff mCnt M8 M9 mXb (tbl m 0) (tbl m 1) f8 f9 f14) (step.sl.v2960 (F := Ideal) c (grid0.coords t) M7 M10 M11 mW f7 f10 f11) (y 1) (y 2).val
        = hAt (m_arg0 m) (m_arg1 m) (offM m) (cntM m) (m_arg4 m) (m_arg5 m) (eOf (grid0.coords t)) ((grid0.coords t 0).val % 10 * 256 + (y 1).val) (256 * (grid0.coords t 1).val + (y 2).val) := by
      rw [x_val m hO c t M8 M9 f8 f9 f14 r8 r9 r14 hl, w_read]
      exact hOf_eq (eOf (grid0.coords t)) _ (grid0.coords t 1).val _ _ (fun p k => rfl) (fun q hq k => wNew_eq m hO c t hl M7 M10 M11 f7 f10 f11 r7 r10 r11 q hq k) (y 1) (y 2).val hy2
    rw [e2]
    unfold at5 mCodes codes
    have m1 : (Fin.ofNat 2560 ((grid0.coords t 0).val % 10 * 256 + (y 1).val)).val = (grid0.coords t 0).val % 10 * 256 + (y 1).val := Nat.mod_eq_of_lt (by omega)
    have m2 : (Fin.ofNat 2048 (256 * (grid0.coords t 1).val + (y 2).val)).val = 256 * (grid0.coords t 1).val + (y 2).val := Nat.mod_eq_of_lt (by omega)
    show _ = codeV (blkA (hBlk _ _ _ _ _ _ (eOf (grid0.coords t)) (Fin.ofNat 2560 ((grid0.coords t 0).val % 10 * 256 + (y 1).val)).val ((Fin.ofNat 2048 (256 * (grid0.coords t 1).val + (y 2).val)).val / 128)))
      (hAt _ _ _ _ _ _ (eOf (grid0.coords t)) (Fin.ofNat 2560 ((grid0.coords t 0).val % 10 * 256 + (y 1).val)).val (Fin.ofNat 2048 (256 * (grid0.coords t 1).val + (y 2).val)).val)
    rw [m1, m2, show 2 * (grid0.coords t 1).val + (y 2).val / 128 = (256 * (grid0.coords t 1).val + (y 2).val) / 128 by omega]
  · rw [at5_dead m hc _ hl]
    funext y
    exact hc_dead c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15 (cond_dead m _ c hl).1 (cond_dead m _ c hl).2 y

include r7 r8 r9 r10 r11 r13 r14 hc in
/-- The scales' block. -/
theorem step6 : M13.view.read (Elt Ideal) ((step (F := Ideal) c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15).1.2.1) = at6 m (grid0.coords t) ((grid0.coords t 1).val + 1) := by
  have h0 : (grid0.coords t 0).val < 40 := i0_lt _
  have h1 : (grid0.coords t 1).val < 8 := i1_lt _
  by_cases hl : tileLive m (grid0.coords t)
  · funext y
    have hy1 : (y 1).val < 256 := (y 1).isLt
    have m1 : (Fin.ofNat 2560 ((grid0.coords t 0).val % 10 * 256 + (y 1).val)).val = (grid0.coords t 0).val % 10 * 256 + (y 1).val := Nat.mod_eq_of_lt (by omega)
    have new : ∀ b, b < 2 → (y 2).val = 2 * (grid0.coords t 1).val + b →
        scaleV (blkA (hb (step.sl.v2959 (F := Ideal) c (grid0.coords t) mOff mCnt M8 M9 mXb (tbl m 0) (tbl m 1) f8 f9 f14) (step.sl.v2960 (F := Ideal) c (grid0.coords t) M7 M10 M11 mW f7 f10 f11) (y 1) b))
          = at6 m (grid0.coords t) ((grid0.coords t 1).val + 1) y := by
      intro b hb' hy
      rw [step_hb m hO c t M7 M8 M9 M10 M11 f7 f8 f9 f10 f11 f14 r7 r8 r9 r10 r11 r14 hl (y 1) b hb']
      unfold at6
      rw [if_pos (by omega)]
      unfold mScales scales
      show _ = scaleV (blkA (hBlk _ _ _ _ _ _ (eOf (grid0.coords t)) (Fin.ofNat 2560 ((grid0.coords t 0).val % 10 * 256 + (y 1).val)).val (y 2).val))
      rw [m1, hy]
    refine (hs_live c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15 (cond_live m _ c hl).1 y).trans ?_
    by_cases hA : (y 2).val = 2 * (grid0.coords t 1).val + 1
    · rw [if_pos hA]; exact new 1 (by omega) hA
    by_cases hB : (y 2).val = 2 * (grid0.coords t 1).val + 0
    · rw [if_neg hA, if_pos hB]; exact new 0 (by omega) hB
    rw [if_neg hA, if_neg hB]
    refine (hs_prev c (grid0.coords t) mTl M13 (tbl m 4) f13 (cond_live m _ c hl).2 y).trans ?_
    by_cases h : (grid0.coords t 1).val = 0
    · rw [if_pos ((cond4_iff _).2 h)]
      unfold at6
      rw [if_neg (by omega)]
    · rw [if_neg (fun hh => h ((cond4_iff _).1 hh)), r13 h]
      unfold at6
      refine if_congr (by omega) rfl rfl
  · rw [at6_dead m hc _ hl]
    funext y
    refine (hs_dead c (grid0.coords t) mOff (Memref.isWhole_whole _) mCnt (Memref.isWhole_whole _) mTe (Memref.isWhole_whole _) mTt (Memref.isWhole_whole _) mTl (Memref.isWhole_whole _) M7 h7 M8 h8 M9 h9 M10 h10 M11 h11 M12 h12 M13 h13 mXb (Memref.isWhole_whole _) mW (Memref.isWhole_whole _) (tbl m 0) (tbl m 1) (tbl m 4) f7 f8 f9 f10 f11 f12 f13 f14 f15 (cond_dead m _ c hl).1 (cond_dead m _ c hl).2 y).trans ?_
    by_cases h : (grid0.coords t 1).val = 0
    · rw [if_pos ((cond2_iff _).2 h)]
    · rw [if_neg (fun hh => h ((cond2_iff _).1 hh)), r13 h, at6_dead m hc _ hl]
end

end Cert.KernelIdeal.Up

end
-- ==== Proof.Sched.lean ====
module

public import proofs.«01_k».proof.Proof.Steps

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (URounds (GSem nD τ sig) Unit) ℕ

/-! When the results' blocks are written back, and when a step leaves the scales' block alone. -/

section
variable (m : (ℓ : Loc nD τ sig) → Buf (Elt Ideal) ℓ)

theorem c0_val (t : Fin grid0.N) : (grid0.coords t 0).val = t.val / 8 % 40 := Pipeline.Grid.coords_val t 0 (by decide) rfl
theorem c1_val (t : Fin grid0.N) : (grid0.coords t 1).val = t.val / 1 % 8 := Pipeline.Grid.coords_val t 1 (by decide) rfl

theorem idx6_sep (i j : grid0.Coords) (h : cc0_transform_6 i = cc0_transform_6 j) : i 0 = j 0 := by
  rw [idx6, idx6] at h
  have a := congrFun h 0
  have b := congrFun h 1
  have a' : (i 0).val / 10 = (j 0).val / 10 := a
  have b' : (i 0).val % 10 = (j 0).val % 10 := b
  exact Fin.ext (by omega)
theorem idx5_sep (i j : grid0.Coords) (h : cc0_transform_5 i = cc0_transform_5 j) : i 1 = j 1 := by
  rw [idx5, idx5] at h
  exact Fin.ext (congrFun h 2)

variable (hO : Ok m)

set_option maxHeartbeats 4000000 in
theorem flush6 (t : Fin (cfgM m hO).N) : ((cfgM m hO).win 6).flush t = true ↔ t.val % 8 = 7 :=
  Pipeline.Window.flush_reads ((cfgM m hO).win 6) rfl (0 : Fin 2) (by exact (by decide : 1 < grid0.bound 0)) (by exact (by decide : grid0.fixedAfter reads0_6 0 = true)) (fun i j h => idx6_sep i j h) (P := 8) (m := 7) (by exact (by decide : grid0.stride 0 = 8)) rfl t
set_option maxHeartbeats 4000000 in
theorem flush5 (t : Fin (cfgM m hO).N) : ((cfgM m hO).win 5).flush t = true :=
  (Pipeline.Window.flush_reads ((cfgM m hO).win 5) rfl (1 : Fin 2) (by exact (by decide : 1 < grid0.bound 1)) (by exact (by decide : grid0.fixedAfter reads0_5 1 = true)) (fun i j h => idx5_sep i j h) (P := 1) (m := 0) (by exact (by decide : grid0.stride 1 = 1)) rfl t).2 (Nat.mod_one _)

theorem atD_word (i : grid0.Coords) : (tbl m).atD 4 (k0_off1 i) = tbl m 4 (ix1 ⟨(i 0).val, i0_lt i⟩) := by
  have h : ∀ a, k0_off1 i a + 1 ≤ S40.size a := fun a => by
    have := i0_lt i
    have e := word_i0 i
    match a with
    | ⟨0, _⟩ => show (Scalar.indexCast (BitVec.ofNat 32 (i 0).val) : Index).toNat + 1 ≤ 40; omega
  refine (dif_pos h).trans (congrArg (tbl m 4) ?_)
  funext a
  match a with
  | ⟨0, _⟩ => exact Fin.ext (word_i0 i)

/-- A step is idle for the scales only at a later step of a tile that is not live. -/
theorem idle6 (i : grid0.Coords) (h : (cfgM m hO).idle 6 i = true) : ¬ tileLive m i ∧ (i 1).val ≠ 0 := by
  have e : (tbl m).atD 4 (k0_off1 i) = BitVec.setWidth 32 (liveT (offM m) (cntM m) (ix1 ⟨(i 0).val, i0_lt i⟩)) := (atD_word m i).trans (congrFun (tl_word m) _)
  have h' : (!(k0_cond1 ((tbl m).atD 4 (k0_off1 i)) == 1#1 && k0_cond2 i == 1#1) && !(k0_cond3 ((tbl m).atD 4 (k0_off1 i)) == 1#1 && k0_cond4 i == 1#1) && !(k0_cond3 ((tbl m).atD 4 (k0_off1 i)) == 1#1)) = true := h
  rw [e] at h'
  refine ⟨fun hl => ?_, fun h0 => ?_⟩
  · unfold tileLive at hl
    rw [hl] at h'
    revert h'
    rw [show (k0_cond3 (BitVec.setWidth 32 1#1) == 1#1) = true by decide]
    simp
  · revert h'
    rw [(cond2_iff i).2 h0, (cond4_iff i).2 h0]
    rcases one1 (liveT (offM m) (cntM m) (ix1 ⟨(i 0).val, i0_lt i⟩)) with hl | hl <;> rw [hl] <;> decide
end

end Cert.KernelIdeal.Up

end
-- ==== Proof.Exact.lean ====
module

public import proofs.«01_k».proof.Proof.Sched
public import Idealize.ShloMosaic.Lib.Pipeline.FrameBody
public import Idealize.ShloMosaic.Lib.Claim
public import Idealize.ShloMosaic.Lib.Pipeline.Covers
public import Idealize.ShloMosaic.Lib.Pipeline.ValueKit

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (URounds (GSem nD τ sig) Unit) ℕ

/-! The call's run with its two results named: the proof data of the pipeline, and its body obligation. -/

section
variable (m : (ℓ : Loc nD τ sig) → Buf (Elt Ideal) ℓ) (ρ : Dev nD → PrngReg)

/-- What the activations' scratch array holds before a point: at a later step of a live tile, the tile. -/
def scr (hO : Ok m) (c : Dev nD) (s : Fin ((cfgM m hO).N + 1)) (f : Bf (F := Ideal) c mXb) : Prop :=
  ∀ t : Fin (cfgM m hO).N, t.castSucc = s → (grid0.coords t 1).val ≠ 0 → tileLive m (grid0.coords t) → mXb.view.read (Elt Ideal) f = xTile m (grid0.coords t)

/-- What the loop carries besides the windows: the scratch arrays, the generator's register and the tables. -/
def PhiX (hO : Ok m) (c : Dev nD) (s : Fin ((cfgM m hO).N + 1)) : sProp 𝕄 :=
  iprop((((∃ f, ⌜scr m hO c s f⌝ ∗ pt c mXb f) ∗ (∃ f, pt (F := Ideal) c mW f)) ∗ (∃ r, prngReg c r))
    ∗ (tb c mOff (tbl m 0) ∗ tb c mCnt (tbl m 1) ∗ tb c mTe (tbl m 2) ∗ tb c mTt (tbl m 3) ∗ tb c mTl (tbl m 4)))

def datX (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => at5 m (grid0.coords t)
    | ⟨6, _⟩ => at6 m (grid0.coords t) ((grid0.coords t 1).val + 1)
  Φ s := PhiX m hO c s
  q w := Pipeline.shareOf spec0 w
  owed _ := 0

theorem AX_eq (hO : Ok m) (c : Dev nD) (w : Fin (cfgM m hO).W) : (datX m hO 0 c).A w = V m c (Pipeline.arrRef spec0 w) := by
  dsimp only [datX]

variable (hO : Ok m) (c : Dev nD)
theorem afterX_0 (t : Fin (cfgM m hO).N) : (datX m hO 0 c).after 0 t = iblk m hO c 0 t := by dsimp only [datX]; try rfl
theorem beforeX_0 (t : Fin (cfgM m hO).N) (d) : (datX m hO 0 c).before 0 t d = iblk m hO c 0 t :=
  before_0_of m hO (datX m hO 0 c) (AX_eq m hO c 0) (afterX_0 m hO c) t d
theorem afterX_1 (t : Fin (cfgM m hO).N) : (datX m hO 0 c).after 1 t = iblk m hO c 1 t := by dsimp only [datX]; try rfl
theorem beforeX_1 (t : Fin (cfgM m hO).N) (d) : (datX m hO 0 c).before 1 t d = iblk m hO c 1 t :=
  before_1_of m hO (datX m hO 0 c) (AX_eq m hO c 1) (afterX_1 m hO c) t d
theorem afterX_2 (t : Fin (cfgM m hO).N) : (datX m hO 0 c).after 2 t = iblk m hO c 2 t := by dsimp only [datX]; try rfl
theorem beforeX_2 (t : Fin (cfgM m hO).N) (d) : (datX m hO 0 c).before 2 t d = iblk m hO c 2 t :=
  before_2_of m hO (datX m hO 0 c) (AX_eq m hO c 2) (afterX_2 m hO c) t d
theorem afterX_3 (t : Fin (cfgM m hO).N) : (datX m hO 0 c).after 3 t = iblk m hO c 3 t := by dsimp only [datX]; try rfl
theorem beforeX_3 (t : Fin (cfgM m hO).N) (d) : (datX m hO 0 c).before 3 t d = iblk m hO c 3 t :=
  before_3_of m hO (datX m hO 0 c) (AX_eq m hO c 3) (afterX_3 m hO c) t d
theorem afterX_4 (t : Fin (cfgM m hO).N) : (datX m hO 0 c).after 4 t = iblk m hO c 4 t := by dsimp only [datX]; try rfl
theorem beforeX_4 (t : Fin (cfgM m hO).N) (d) : (datX m hO 0 c).before 4 t d = iblk m hO c 4 t :=
  before_4_of m hO (datX m hO 0 c) (AX_eq m hO c 4) (afterX_4 m hO c) t d
theorem afterX_5 (t : Fin (cfgM m hO).N) : (datX m hO 0 c).after 5 t = at5 m (grid0.coords t) := by dsimp only [datX]; try rfl
theorem afterX_6 (t : Fin (cfgM m hO).N) : (datX m hO 0 c).after 6 t = at6 m (grid0.coords t) ((grid0.coords t 1).val + 1) := by dsimp only [datX]; try rfl

set_option maxHeartbeats 4000000 in
/-- At a later step of a tile the scales' block holds the scales of the steps before. -/
theorem beforeX_6 (hc : ∀ y, 0 ≤ (cntM m y).toInt) : ∀ (n : ℕ) (t : Fin (cfgM m hO).N) (_ : t.val = n) (_ : (grid0.coords t 1).val ≠ 0) (d),
    (datX m hO 0 c).before 6 t d = at6 m (grid0.coords t) (grid0.coords t 1).val
  | 0, t, ht, h, d => absurd (by rw [c1_val t, ht]) h
  | n + 1, t, ht, h, d => by
    have hN : t.val - 1 < (cfgM m hO).N := Nat.lt_of_le_of_lt (Nat.sub_le _ _) t.isLt
    have k1 := c1_val t
    have k0 := c0_val t
    have p1 := c1_val (⟨t.val - 1, hN⟩ : Fin grid0.N)
    have p0 := c0_val (⟨t.val - 1, hN⟩ : Fin grid0.N)
    have pv : (⟨t.val - 1, hN⟩ : Fin grid0.N).val = t.val - 1 := rfl
    rw [pv] at p1 p0
    have q1 : (grid0.coords t 1).val = (grid0.coords (⟨t.val - 1, hN⟩ : Fin grid0.N) 1).val + 1 := by omega
    have q0 : (grid0.coords (⟨t.val - 1, hN⟩ : Fin grid0.N) 0).val = (grid0.coords t 0).val := by omega
    have hfl : ((cfgM m hO).win 6).flush ⟨t.val - 1, hN⟩ = false := by
      rw [Bool.eq_false_iff]
      intro hf
      have := (flush6 m hO ⟨t.val - 1, hN⟩).1 hf
      have : (t.val - 1) % 8 = 7 := this
      omega
    rw [(datX m hO 0 c).before_of_pos 6 t (by omega) (((cfgM m hO).win 6).fetch_out rfl t) d, hfl, if_neg Bool.false_ne_true]
    unfold Dat.left
    rw [← at6_congr m (grid0.coords (⟨t.val - 1, hN⟩ : Fin grid0.N)) (grid0.coords t) q0, q1]
    cases hi : (cfgM m hO).idle 6 ((cfgM m hO).grid.coords ⟨t.val - 1, hN⟩)
    · exact afterX_6 m hO c ⟨t.val - 1, hN⟩
    · obtain ⟨hd, hne⟩ := idle6 m hO _ hi
      refine (beforeX_6 hc n ⟨t.val - 1, hN⟩ (by show t.val - 1 = n; omega) hne d).trans ?_
      rw [at6_dead m hc _ hd, at6_dead m hc _ hd]

/-- A later step's tile is the step's before. -/
theorem scr_succ (t : Fin (cfgM m hO).N) (f : Bf (F := Ideal) c mXb)
    (h : tileLive m (grid0.coords t) → mXb.view.read (Elt Ideal) f = xTile m (grid0.coords t)) : scr m hO c t.succ f := by
  intro t' ht h1 hl
  have hv : t'.val = t.val + 1 := congrArg Fin.val ht
  have k1 := c1_val t'
  have k0 := c0_val t'
  have p0 := c0_val t
  have q0 : (grid0.coords t 0).val = (grid0.coords t' 0).val := by omega
  rw [← xTile_congr m _ _ q0]
  exact h ((tileLive_congr m _ _ q0).2 hl)

def preX (t : Fin (cfgM m hO).N) : sProp 𝕄 :=
  iprop(PhiX m hO c t.castSucc
    ∗ (datX m hO 0 c).owesAt () t.castSucc
    ∗ (∃ d, owns (c : Thread nD τ) (ms0 m hO t) fullShare ((datX m hO 0 c).before 0 t d))
    ∗ (∃ d, owns (c : Thread nD τ) (ms1 m hO t) fullShare ((datX m hO 0 c).before 1 t d))
    ∗ (∃ d, owns (c : Thread nD τ) (ms2 m hO t) fullShare ((datX m hO 0 c).before 2 t d))
    ∗ (∃ d, owns (c : Thread nD τ) (ms3 m hO t) fullShare ((datX m hO 0 c).before 3 t d))
    ∗ (∃ d, owns (c : Thread nD τ) (ms4 m hO t) fullShare ((datX m hO 0 c).before 4 t d))
    ∗ (∃ d, owns (c : Thread nD τ) (ms5 m hO t) fullShare ((datX m hO 0 c).before 5 t d))
    ∗ (∃ d, owns (c : Thread nD τ) (ms6 m hO t) fullShare ((datX m hO 0 c).before 6 t d)))
def postX (t : Fin (cfgM m hO).N) : sProp 𝕄 :=
  iprop(PhiX m hO c t.succ
    ∗ (datX m hO 0 c).owesAt () t.succ
    ∗ owns (c : Thread nD τ) (ms0 m hO t) fullShare ((datX m hO 0 c).after 0 t)
    ∗ owns (c : Thread nD τ) (ms1 m hO t) fullShare ((datX m hO 0 c).after 1 t)
    ∗ owns (c : Thread nD τ) (ms2 m hO t) fullShare ((datX m hO 0 c).after 2 t)
    ∗ owns (c : Thread nD τ) (ms3 m hO t) fullShare ((datX m hO 0 c).after 3 t)
    ∗ owns (c : Thread nD τ) (ms4 m hO t) fullShare ((datX m hO 0 c).after 4 t)
    ∗ owns (c : Thread nD τ) (ms5 m hO t) fullShare ((datX m hO 0 c).after 5 t)
    ∗ owns (c : Thread nD τ) (ms6 m hO t) fullShare ((datX m hO 0 c).after 6 t))

set_option maxHeartbeats 1600000 in
theorem sound_bodyX (hc : ∀ y, 0 ≤ (cntM m y).toInt) (t : Fin (cfgM m hO).N) :
    preX m hO c t ⊢ wp frame (wpE (defs₀ (F := Ideal)) Variants.none c none) Set.univ (bodyAt m hO t) (fun _ => postX m hO c t) := by
  unfold preX postX bodyAt
  simp only [beforeX_0, beforeX_1, beforeX_2, beforeX_3, beforeX_4]
  rw [show (datX m hO 0 c).owesAt () t.succ = (datX m hO 0 c).owesAt () t.castSucc from rfl,
    afterX_0, afterX_1, afterX_2, afterX_3, afterX_4, afterX_5, afterX_6]
  unfold PhiX owns
  iintro ⟨⟨⟨⟨⟨%f14, %hf14, H14⟩, ⟨%f15, H15⟩⟩, Hg⟩, ⟨H2, H3, H4, H5, H6⟩⟩, Ho, ⟨%d0, ⟨%f7, %hf7, H7⟩⟩, ⟨%d1, ⟨%f8, %hf8, H8⟩⟩, ⟨%d2, ⟨%f9, %hf9, H9⟩⟩, ⟨%d3, ⟨%f10, %hf10, H10⟩⟩, ⟨%d4, ⟨%f11, %hf11, H11⟩⟩, ⟨%d5, ⟨%f12, -, H12⟩⟩, ⟨%d6, ⟨%f13, %hf13, H13⟩⟩⟩
  have r14 := hf14 t rfl
  have r13 : (grid0.coords t 1).val ≠ 0 → (ms6 m hO t).view.read (Elt Ideal) f13 = at6 m (grid0.coords t) (grid0.coords t 1).val :=
    fun h => hf13.trans (beforeX_6 m hO c hc t.val t rfl h d6)
  have s5 := step5 m hc hO c t (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) f7 f8 f9 f10 f11 f12 f13 f14 f15 hf7 hf8 hf9 hf10 hf11 r14
  have s6 := step6 m hc hO c t (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) f7 f8 f9 f10 f11 f12 f13 f14 f15 hf7 hf8 hf9 hf10 hf11 r14 r13
  have s14 := scr_succ m hO c t _ (step14 m hO c t (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) f7 f8 f9 f10 f11 f12 f13 f14 f15 hf8 hf9 r14)
  iapply ((step c (grid0.coords t) mOff (Memref.isWhole_whole _) mCnt (Memref.isWhole_whole _) mTe (Memref.isWhole_whole _) mTt (Memref.isWhole_whole _) mTl (Memref.isWhole_whole _)
    (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) mXb (Memref.isWhole_whole _) mW (Memref.isWhole_whole _)
    (tbl m 0) (tbl m 1) (tbl m 4) f7 f8 f9 f10 f11 f12 f13 f14 f15).2 Set.univ _)
  isplitl [H2]; · iexact H2
  isplitl [H3]; · iexact H3
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H2, H3, H6, H7, H8, H9, H10, H11, H12, H13, H14, H15⟩
  isplitl [H14 H15 Hg H2 H3 H4 H5 H6]
  · isplitl [H14 H15 Hg]
    · isplitl [H14 H15]
      · isplitl [H14]
        · iexists _; isplitr; swap; · iexact H14
          ipureintro; exact s14
        iexists _; iexact H15
      iexact Hg
    isplitl [H2]; · iexact H2
    isplitl [H3]; · iexact H3
    isplitl [H4]; · iexact H4
    isplitl [H5]; · iexact H5
    iexact H6
  isplitl [Ho]; · iexact Ho
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; swap; · iexact H12
    ipureintro; exact s5
  iexists _; isplitr; swap; · iexact H13
  ipureintro; exact s6
end

end Cert.KernelIdeal.Up

end
-- ==== Proof.Final.lean ====
module

public import proofs.«01_k».proof.Proof.Exact

@[expose] public section

set_option maxRecDepth 16384

noncomputable section

namespace Cert.KernelIdeal.Up

open Cert.KernelIdeal Cert.KernelIdeal.Gen
open Idealize.ShloMosaic Idealize.ShloMosaic.TcCoe Idealize.ShloMosaic.Tactic
open Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (URounds (GSem nD τ sig) Unit) ℕ

/-! The run of the call: its two results after it. -/

theorem leaves_of {M : Type} [URA M] (b f : Bool) (A B : sProp M) : (b = true → f = false → A ⊢ B) →
    (A ⊢ match b with | true => (match f with | false => B | true => A) | false => A) := by
  intro h
  cases b
  · exact .rfl
  · cases f
    · exact h rfl rfl
    · exact .rfl

section
variable (m : (ℓ : Loc nD τ sig) → Buf (Elt Ideal) ℓ) (ρ : Dev nD → PrngReg) (hO : Ok m) (c : Dev nD)

set_option maxHeartbeats 4000000 in
theorem bodyX_obligation (hc : ∀ y, 0 ≤ (cntM m y).toInt) : BodyObligation (datX m hO 0 c) (defs₀ (F := Ideal)) Variants.none () Set.univ := fun t => by
  rw [bigSep_W0, bigSep_W0, defs₀_row m hO]
  refine triple_restated (sound_bodyX m hO c hc t) rfl .rfl fun _ => ?_
  unfold postX
  refine BIClass.sep_mono .rfl (BIClass.sep_mono .rfl (BIClass.sep_mono .rfl (BIClass.sep_mono .rfl (BIClass.sep_mono .rfl (BIClass.sep_mono .rfl (BIClass.sep_mono .rfl (BIClass.sep_mono ?_ ?_)))))))
  · exact leaves_of ((cfgM m hO).idle 5 ((cfgM m hO).grid.coords t)) (((cfgM m hO).win 5).flush t) _ _ fun _ hf => absurd ((flush5 m hO t).symm.trans hf) (by decide)
  · refine leaves_of ((cfgM m hO).idle 6 ((cfgM m hO).grid.coords t)) (((cfgM m hO).win 6).flush t) _ _ fun hi _ => ?_
    obtain ⟨hd, hne⟩ := idle6 m hO _ hi
    have e0 : at6 m (grid0.coords t) ((grid0.coords t 1).val + 1) = at6 m (grid0.coords t) (grid0.coords t 1).val := by
      rw [at6_dead m hc _ hd, at6_dead m hc _ hd]
    have e : (datX m hO 0 c).after 6 t = (datX m hO 0 c).before 6 t (at6 m (grid0.coords t) 0) :=
      (afterX_6 m hO c t).trans (e0.trans (beforeX_6 m hO c hc t.val t rfl hne _).symm)
    rw [e]
    iintro H
    iexists _
    iexact H

set_option backward.isDefEq.respectTransparency.types false in
theorem runX (hc : ∀ y, 0 ≤ (cntM m y).toInt) : θ_run defs (onTc (τ := τ) (main (F := Ideal))) (s₀ m ρ) (Pipeline.FramePost (Pipeline.pin pcfgs fun _ => adm m hO) (datX m hO) (0 : Fin 1) (V m)) :=
  Pipeline.θ_run_frameP_track_shared pcfgs (fun _ => adm m hO) (datX m hO) (0 : Fin 1) launch₀0 defs₀ Variants.none m ρ main
    (hbody := fun c => (bodyX_obligation m hO c hc).loose) (hq := fun _ _ _ => rfl)
    (howed := fun _ _ => rfl) (V := V m) (hmain := hmain m Variants.none) (hA := AX_eq m hO) (hpf := V_pre m)
    (hin := fun c => by
      show iprop(Pipeline.ΦA spec0 c ∗ Pipeline.ΦT pre0 (tbl m) c) ⊢ PhiX m hO c 0
      rw [PhiT_eq, PhiA_eq]
      unfold PhiX
      iintro ⟨⟨⟨⟨%f, H⟩, H15⟩, Hg⟩, HT⟩
      isplitl [H H15 Hg]
      · isplitl [H H15]
        · isplitl [H]
          · iexists f; isplitr; swap; · iexact H
            ipureintro
            intro t ht h1
            exact absurd (by rw [c1_val t, show t.val = 0 from congrArg Fin.val ht]) h1
          iexact H15
        iexact Hg
      iexact HT)
    (hout := fun c => by
      show PhiX m hO c (Fin.last _) ⊢ Pipeline.ΦA spec0 c
      rw [PhiA_eq]
      unfold PhiX
      iintro ⟨⟨⟨⟨%f, %hf, H⟩, H15⟩, Hg⟩, HT⟩
      isplitl [H H15]
      · isplitl [H]
        · iexists f; iexact H
        iexact H15
      iexact Hg)

set_option maxHeartbeats 4000000 in
theorem cov5 : ((cfgM m hO).win 5).Covers :=
  Pipeline.Window.covers_of_indexMap_surj _ rfl (fun a => by exact (by decide : ∀ a : Fin 3, 0 < S1x256x256.size a) a) fun β => by
    have b0 : (β (0 : Fin 3)).val < 4 := lt_of_lt_of_eq (b := (4 + 1 - 1) / 1) (β (0 : Fin 3)).isLt (by decide)
    have b1 : (β (1 : Fin 3)).val < 10 := lt_of_lt_of_eq (b := (2560 + 256 - 1) / 256) (β (1 : Fin 3)).isLt (by decide)
    have b2 : (β (2 : Fin 3)).val < 8 := lt_of_lt_of_eq (b := (2048 + 256 - 1) / 256) (β (2 : Fin 3)).isLt (by decide)
    let i : grid0.Coords := fun a => match a with
      | ⟨0, _⟩ => ⟨(β (0 : Fin 3)).val * 10 + (β (1 : Fin 3)).val, by show _ < 40; omega⟩
      | ⟨1, _⟩ => ⟨(β (2 : Fin 3)).val, b2⟩
    refine ⟨i, fun a => ?_⟩
    refine (congrFun (idx5 i) a).trans ?_
    match a with
    | ⟨0, _⟩ => show ((β (0 : Fin 3)).val * 10 + (β (1 : Fin 3)).val) / 10 = (β (0 : Fin 3)).val; omega
    | ⟨1, _⟩ => show ((β (0 : Fin 3)).val * 10 + (β (1 : Fin 3)).val) % 10 = (β (1 : Fin 3)).val; omega
    | ⟨2, _⟩ => rfl
set_option maxHeartbeats 4000000 in
theorem cov6 : ((cfgM m hO).win 6).Covers :=
  Pipeline.Window.covers_of_indexMap_surj _ rfl (fun a => by exact (by decide : ∀ a : Fin 3, 0 < S1x256x16.size a) a) fun β => by
    have b0 : (β (0 : Fin 3)).val < 4 := lt_of_lt_of_eq (b := (4 + 1 - 1) / 1) (β (0 : Fin 3)).isLt (by decide)
    have b1 : (β (1 : Fin 3)).val < 10 := lt_of_lt_of_eq (b := (2560 + 256 - 1) / 256) (β (1 : Fin 3)).isLt (by decide)
    have b2 : (β (2 : Fin 3)).val < 1 := lt_of_lt_of_eq (b := (16 + 16 - 1) / 16) (β (2 : Fin 3)).isLt (by decide)
    let i : grid0.Coords := fun a => match a with
      | ⟨0, _⟩ => ⟨(β (0 : Fin 3)).val * 10 + (β (1 : Fin 3)).val, by show _ < 40; omega⟩
      | ⟨1, _⟩ => ⟨0, by show 0 < 8; omega⟩
    refine ⟨i, fun a => ?_⟩
    refine (congrFun (idx6 i) a).trans ?_
    match a with
    | ⟨0, _⟩ => show ((β (0 : Fin 3)).val * 10 + (β (1 : Fin 3)).val) / 10 = (β (0 : Fin 3)).val; omega
    | ⟨1, _⟩ => show ((β (0 : Fin 3)).val * 10 + (β (1 : Fin 3)).val) % 10 = (β (1 : Fin 3)).val; omega
    | ⟨2, _⟩ => show 0 = (β (2 : Fin 3)).val; omega

set_option maxHeartbeats 8000000 in
/-- The codes after the run. -/
theorem final5 : (datX m hO 0 c).arrAt 5 (cfgM m hO).N = mCodes m :=
  (datX m hO 0 c).arrAt_eq_of_covers 5 _ (cov5 m hO) fun t hf y => by
    have h0 : (grid0.coords t 0).val < 40 := i0_lt _
    have h7 : (grid0.coords t 1).val < 8 := i1_lt _
    have key : ∀ y : S1x256x256.Idx, at5 m (grid0.coords t) y = mCodes m ((((cfgM m hO).win 5).rect t).emb y) := by
      intro y
      have hy0 : (y 0).val < 1 := (y 0).isLt
      have hy1 : (y 1).val < 256 := (y 1).isLt
      have hy2 : (y 2).val < 256 := (y 2).isLt
      have h2 : ∀ a : Fin 3, ((((cfgM m hO).win 5).rect t).emb y a).val = cc0_transform_5 (grid0.coords t) a * S1x256x256.size a + (y a).val :=
        fun a => ((cfgM m hO).win 5).rect_emb_val t y a
      unfold at5
      refine congrArg (mCodes m) ?_
      funext a
      apply Fin.ext
      refine Eq.trans ?_ (h2 a).symm
      rw [idx5]
      match a with
      | ⟨0, _⟩ => show (grid0.coords t 0).val / 10 = (grid0.coords t 0).val / 10 * 1 + (y 0).val; omega
      | ⟨1, _⟩ => show ((grid0.coords t 0).val % 10 * 256 + (y 1).val) % 2560 = (grid0.coords t 0).val % 10 * 256 + (y 1).val; omega
      | ⟨2, _⟩ => show (256 * (grid0.coords t 1).val + (y 2).val) % 2048 = (grid0.coords t 1).val * 256 + (y 2).val; omega
    exact key y
set_option maxHeartbeats 8000000 in
/-- The scales after the run. -/
theorem final6 : (datX m hO 0 c).arrAt 6 (cfgM m hO).N = mScales m :=
  (datX m hO 0 c).arrAt_eq_of_covers 6 _ (cov6 m hO) fun t hf y => by
    have h0 : (grid0.coords t 0).val < 40 := i0_lt _
    have h7 : (grid0.coords t 1).val = 7 := by
      have := (flush6 m hO t).1 hf
      rw [c1_val t]; omega
    have key : ∀ y : S1x256x16.Idx, at6 m (grid0.coords t) ((grid0.coords t 1).val + 1) y = mScales m ((((cfgM m hO).win 6).rect t).emb y) := by
      intro y
      have hy0 : (y 0).val < 1 := (y 0).isLt
      have hy1 : (y 1).val < 256 := (y 1).isLt
      have hy2 : (y 2).val < 16 := (y 2).isLt
      have h2 : ∀ a : Fin 3, ((((cfgM m hO).win 6).rect t).emb y a).val = cc0_transform_6 (grid0.coords t) a * S1x256x16.size a + (y a).val :=
        fun a => ((cfgM m hO).win 6).rect_emb_val t y a
      unfold at6
      rw [if_pos (by omega)]
      refine congrArg (mScales m) ?_
      funext a
      apply Fin.ext
      refine Eq.trans ?_ (h2 a).symm
      rw [idx6]
      match a with
      | ⟨0, _⟩ => show (grid0.coords t 0).val / 10 = (grid0.coords t 0).val / 10 * 1 + (y 0).val; omega
      | ⟨1, _⟩ => show ((grid0.coords t 0).val % 10 * 256 + (y 1).val) % 2560 = (grid0.coords t 0).val % 10 * 256 + (y 1).val; omega
      | ⟨2, _⟩ => show (y 2).val = 0 * 16 + (y 2).val; omega
    exact key y

include hO in
/-- Every run of the program ends with the two results the spec's, its argument arrays unchanged. -/
theorem run_values (hc : ∀ y, 0 ≤ (cntM m y).toInt) : θ_run defs (onTc (τ := τ) (main (F := Ideal))) ⟨m, fun _ => 0, ρ⟩ (fun r => ∀ c : Dev nD,
      (r.2.mem ((c.tc : Thread nD τ).loc main_v34_0) : S4x2560x2048.Idx → EReal) = mCodes m
      ∧ (r.2.mem ((c.tc : Thread nD τ).loc main_v34_1) : S4x2560x16.Idx → EReal) = mScales m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.out_eq c 5).trans (final5 m hO c), (h.out_eq c 6).trans (final6 m hO c),
   (h.in_eq c 1 rfl).trans ((AX_eq m hO c 1).trans (V_main_arg0 m c)),
   (h.in_eq c 2 rfl).trans ((AX_eq m hO c 2).trans (V_main_arg1 m c)),
   (h.rest_eq c main_arg2 (by decide : main_arg2 ∈ Pipeline.restRefs sig spec0)).trans (V_main_arg2 m c),
   (h.rest_eq c main_arg3 (by decide : main_arg3 ∈ Pipeline.restRefs sig spec0)).trans (V_main_arg3 m c),
   (h.in_eq c 3 rfl).trans ((AX_eq m hO c 3).trans (V_main_arg4 m c)),
   (h.rest_eq c main_arg5 (by decide : main_arg5 ∈ Pipeline.restRefs sig spec0)).trans (V_main_arg5 m c)⟩) (runX m ρ hO hc)
end

end Cert.KernelIdeal.Up

end
-- ==== Proof.RefVal.lean ====
module
public import proofs.«01_k».proof.Proof.Spec
public import proofs.«01_k».proof.Proof.Gen.ReferenceIdeal.Value
@[expose] public section
set_option maxRecDepth 16384
noncomputable section
namespace Cert.ReferenceIdeal.Up
open Cert.ReferenceIdeal Cert.ReferenceIdeal.Gen
open Cert.KernelIdeal.Up (liveB liveB_iff liveRow xAt wAt hAt hBlk codes scales silu blkA codeV scaleV expR refEx_eq exp2_int)
open Idealize.ShloMosaic Idealize.ShloMosaic.TcCoe Idealize.ShloMosaic.Tactic
open Idealize.ShloMosaic.Pointwise

/-! The reference's two results are the same two functions of the arguments. -/

/-- The indicator of a row's lying in a rank's range is above zero exactly where it does. -/
theorem sel_pos (o x c : BitVec 32) :
    (0 : EReal) < Scalar.select (IntOp.andi (IntOp.cmpi .sle o x) (IntOp.cmpi .slt x (IntOp.addi o c))) 1 0 ↔ o.sle x = true ∧ x.slt (o + c) = true := by
  show (0 : EReal) < Scalar.select (BitVec.ofBool (o.sle x) &&& BitVec.ofBool (x.slt (o + c))) 1 0 ↔ _
  cases o.sle x <;> cases x.slt (o + c) <;> simp [Scalar.select]

theorem pay3_apply (off cnt : Vec Ideal S4x20 .i32) (xc : Vec Ideal S4x2560x7168 .fp8e4m3) (xs : Vec Ideal S4x2560x56 .f32) (j : S4x2560x7168.Idx) :
    k0_pay3 (F := Ideal) off cnt xc xs j = xAt xc xs off cnt (j 0) (j 1).val (j 2) := by
  unfold k0_pay3
  pointwise
  unfold xAt
  have e1 : Fin.ofNat 2560 (j 1).val = j 1 := Fin.ext (Nat.mod_eq_of_lt (j 1).isLt)
  refine if_congr ?_ ?_ ?_
  · rw [Finset.lt_fold_max]
    unfold liveRow
    rw [liveB_iff]
    constructor
    · rintro (h | ⟨x, _, h⟩)
      · exact absurd h (by simp [Ideal.ofBits, Ideal.ieee])
      · refine ⟨x.val, x.isLt, ?_⟩
        rw [show Fin.ofNat 20 x.val = x from Fin.ext (Nat.mod_eq_of_lt x.isLt)]
        exact (sel_pos _ _ _).1 h
    · rintro ⟨r, hr, h⟩
      exact Or.inr ⟨Fin.ofNat 20 r, Finset.mem_univ _, (sel_pos _ _ _).2 h⟩
  · rw [e1]
    congr 2
    · funext a
      fin_cases a <;> rfl
    · funext a
      fin_cases a
      · rfl
      · rfl
      · exact Fin.ext (Nat.mod_eq_of_lt (by have := (j 2).isLt; exact (Nat.div_lt_iff_lt_mul (by decide)).2 this)).symm
  · simp

theorem pay4_apply (ws : Vec Ideal S4x32x56 .f32) (j : S4x4096x56x128.Idx) :
    k0_pay4 (F := Ideal) ws j = ws (ix3 (j 0) ⟨(j 1).val / 128, by have := (j 1).isLt; exact (Nat.div_lt_iff_lt_mul (by decide)).2 this⟩ (j 2)) := by
  unfold k0_pay4
  pointwise

theorem pay5_apply (off cnt : Vec Ideal S4x20 .i32) (xc : Vec Ideal S4x2560x7168 .fp8e4m3) (xs : Vec Ideal S4x2560x56 .f32)
    (wc : Vec Ideal S4x4096x7168 .fp8e4m3) (ws : Vec Ideal S4x32x56 .f32) (j : S4x2560x16x128.Idx) :
    k0_pay5 (F := Ideal) (k0_pay3 off cnt xc xs) (k0_pay4 ws) wc j = hAt xc xs off cnt wc ws (j 0) (j 1).val (128 * (j 2).val + (j 3).val) := by
  unfold k0_pay5
  pointwise
  have h2 : (j 2).val < 16 := (j 2).isLt
  have h3 : (j 3).val < 128 := (j 3).isLt
  have key : ∀ (f : Fin 4096) (g : ℕ) (hg : f.val = g) (x : Fin 7168) (h1 h2),
      wc (ix3 (j 0) f x) * k0_pay4 (F := Ideal) ws (ix4 (j 0) f ⟨x.val / 128, h1⟩ ⟨x.val % 128, h2⟩) = wAt wc ws (j 0) g x := by
    rintro f g rfl x h1 h2
    rw [pay4_apply]
    unfold wAt
    congr 2
    · rw [show Fin.ofNat 4096 f.val = f from Fin.ext (Nat.mod_eq_of_lt f.isLt)]
    · funext a
      fin_cases a
      · rfl
      · exact Fin.ext (Nat.mod_eq_of_lt (by have := f.isLt; exact (Nat.div_lt_iff_lt_mul (by decide)).2 this)).symm
      · exact Fin.ext (Nat.mod_eq_of_lt h1).symm
  have hs : ∀ (f : Fin 4096) (g : ℕ) (hg : f.val = g),
      (∑ x : Fin 7168, k0_pay3 (F := Ideal) off cnt xc xs (ix3 (j 0) (j 1) x) * (wc (ix3 (j 0) f x) * k0_pay4 (F := Ideal) ws
        (ix4 (j 0) f ⟨x.val / 128, (Nat.div_lt_iff_lt_mul (by decide)).2 x.isLt⟩ ⟨x.val % 128, Nat.mod_lt _ (by decide)⟩)))
        = ∑ k : Fin 7168, xAt xc xs off cnt (j 0) (j 1).val k * wAt wc ws (j 0) g k := fun f g hg =>
    Finset.sum_congr rfl fun x _ => congrArg₂ (· * ·) (pay3_apply _ _ _ _ _) (key f g hg x _ _)
  exact congrArg₂ (· * ·) (congrArg₂ (fun a b => a * Ideal.logistic b)
      (hs ⟨(j 2).val * 128 + (j 3).val, by omega⟩ _ (show (j 2).val * 128 + (j 3).val = _ by omega)) (hs ⟨(j 2).val * 128 + (j 3).val, by omega⟩ _ (show (j 2).val * 128 + (j 3).val = _ by omega)))
    (hs ⟨2048 + ((j 2).val * 128 + (j 3).val), by omega⟩ _ (show 2048 + ((j 2).val * 128 + (j 3).val) = _ by omega))
/-- The blocks' greatest magnitudes over the format's greatest. -/
def amaxV (h : FVec Ideal S4x2560x16x128 .f32) : FVec Ideal S4x2560x16 .f32 :=
  multiReduction .maximumf [3] S4x2560x16 (absf h) 0xFF800000#32 reduces_S4x2560x16x128_S4x2560x16 (.inl rfl) rfl

theorem amaxV_apply (h : FVec Ideal S4x2560x16x128 .f32) (j : S4x2560x16.Idx) :
    amaxV h j * Ideal.ofBits .f32 0x3B124925#32 = blkA fun k => h (ix4 (j 0) (j 1) (j 2) k) := by
  have e : amaxV h j = Finset.fold max (Ideal.ofBits .f32 0xFF800000#32) (fun x : Fin 128 => FloatOps.absf (h (ix4 (j 0) (j 1) (j 2) x))) Finset.univ := by
    unfold amaxV
    pointwise
  rw [e]
  rfl

/-- The powers of two from -126 to 125. -/
def thrV : FVec Ideal S252 .f32 :=
  exp2 (sitofp .f32 (addi (broadcast S252 4294967170#32) (shapeCast S252 (iota .tc S1x252 32 [1] iota_S1x252_d1_w32) shapeCasts_S1x252_S252)))

theorem toInt252 : ∀ k : Fin 252, (4294967170#32 + BitVec.ofNat 32 k.val).toInt = (k.val : ℤ) - 126 := by decide +kernel

theorem thrV_apply (k : Fin 252) : thrV (ix1 k) = (((2 : ℝ) ^ ((k.val : ℤ) - 126) : ℝ) : EReal) := by
  have e : thrV (ix1 k) = FloatOps.exp2 (F := Ideal) (φ := .f32) (FloatOps.sitofp .f32 (IntOp.addi 4294967170#32 (BitVec.ofNat 32 k.val))) := by
    unfold thrV
    pointwise
  rw [e]
  show Ideal.exp2 ((((4294967170#32 + BitVec.ofNat 32 k.val).toInt : ℤ) : ℝ) : EReal) = _
  rw [toInt252, exp2_int]

/-- How many of the thresholds are not above an entry. -/
def sumV (v56 : FVec Ideal S4x2560x16 .f32) (v63 : FVec Ideal S252 .f32) : FVec Ideal S4x2560x16 .f32 :=
  multiReduction .add [3] S4x2560x16
    (sitofp .f32 (extui 32 (cmpf .oge (broadcastTo S4x2560x16x252 (shapeCast S4x2560x16x1 v56 shapeCasts_S4x2560x16_S4x2560x16x1) broadcasts_S4x2560x16x1_S4x2560x16x252)
      (broadcastTo S4x2560x16x252 (shapeCast S1x1x1x252 v63 shapeCasts_S252_S1x1x1x252) broadcasts_S1x1x1x252_S4x2560x16x252)) natLt_1_32))
    0x00000000#32 reduces_S4x2560x16x252_S4x2560x16 (.inl rfl) rfl

theorem sumV_apply (v56 : FVec Ideal S4x2560x16 .f32) (v63 : FVec Ideal S252 .f32) (j : S4x2560x16.Idx) :
    sumV v56 v63 j = ∑ x : Fin 252, (if v63 (ix1 x) ≤ v56 j then 1 else 0 : EReal) := by
  unfold sumV
  pointwise
  refine Finset.sum_congr rfl fun x _ => ?_
  by_cases h : v63 (ix1 x) ≤ v56 j
  · rw [if_pos h, decide_eq_true h]
    show (((1#32).toInt : ℝ) : EReal) = 1
    simp
  · rw [if_neg h, decide_eq_false h]
    show (((0#32).toInt : ℝ) : EReal) = 0
    simp

theorem ofBits_126 : Ideal.ofBits .f32 0x42FC0000#32 = ((126 : ℝ) : EReal) := by
  simp [Ideal.ofBits, Ideal.ieee]
  rw [← EReal.coe_mul]
  norm_num

/-- The exponent is zero where the greatest magnitude is. -/
theorem selV_apply (a s : FVec Ideal S4x2560x16 .f32) (j : S4x2560x16.Idx) :
    select (cmpf .oeq (mulf a (broadcast S4x2560x16 (Scalar.ofBits (F := Ideal) .f32 0x3B124925#32))) (broadcast S4x2560x16 (Scalar.ofBits (F := Ideal) .f32 0x00000000#32)))
      (broadcast S4x2560x16 (Scalar.ofBits (F := Ideal) .f32 0x00000000#32))
      (subf s (broadcast S4x2560x16 (Scalar.ofBits (F := Ideal) .f32 0x42FC0000#32))) j = (if a j * Ideal.ofBits .f32 0x3B124925#32 = 0 then 0 else s j - Ideal.ofBits .f32 0x42FC0000#32) := by
  pointwise

theorem exV_apply (a : FVec Ideal S4x2560x16 .f32) (j : S4x2560x16.Idx) :
    select (cmpf .oeq (mulf a (broadcast S4x2560x16 (Scalar.ofBits (F := Ideal) .f32 0x3B124925#32))) (broadcast S4x2560x16 (Scalar.ofBits (F := Ideal) .f32 0x00000000#32)))
      (broadcast S4x2560x16 (Scalar.ofBits (F := Ideal) .f32 0x00000000#32))
      (subf (sumV (mulf a (broadcast S4x2560x16 (Scalar.ofBits (F := Ideal) .f32 0x3B124925#32))) thrV) (broadcast S4x2560x16 (Scalar.ofBits (F := Ideal) .f32 0x42FC0000#32))) j
      = (((expR (a j * Ideal.ofBits .f32 0x3B124925#32) : ℤ) : ℝ) : EReal) := by
  have h2 : sumV (mulf a (broadcast S4x2560x16 (Scalar.ofBits (F := Ideal) .f32 0x3B124925#32))) thrV j
      = ∑ x : Fin 252, (if (((2 : ℝ) ^ ((x.val : ℤ) - 126) : ℝ) : EReal) ≤ a j * Ideal.ofBits .f32 0x3B124925#32 then 1 else 0 : EReal) := by
    rw [sumV_apply]
    refine Finset.sum_congr rfl fun x _ => ?_
    rw [thrV_apply]
    rfl
  rw [selV_apply, h2, ofBits_126]
  exact refEx_eq _ _ fun k => rfl

/-- The exponent of the blocks, from the blocks' entries. -/
theorem pay6_apply (X : FVec Ideal S4x2560x7168 .bf16) (S : FVec Ideal S4x4096x56x128 .bf16) (W : Vec Ideal S4x4096x7168 .fp8e4m3) (j : S4x2560x16.Idx) :
    k0_pay6 (F := Ideal) X S W j = (((expR (blkA fun k => k0_pay5 (F := Ideal) X S W (ix4 (j 0) (j 1) (j 2) k)) : ℤ) : ℝ) : EReal) := by
  have e : ∀ h, k0_pay5 (F := Ideal) X S W = h → k0_pay6 (F := Ideal) X S W = select (cmpf .oeq (mulf (amaxV h) (broadcast S4x2560x16 (Scalar.ofBits .f32 0x3B124925#32))) (broadcast S4x2560x16 (Scalar.ofBits .f32 0x00000000#32)))
      (broadcast S4x2560x16 (Scalar.ofBits .f32 0x00000000#32))
      (subf (sumV (mulf (amaxV h) (broadcast S4x2560x16 (Scalar.ofBits .f32 0x3B124925#32))) thrV) (broadcast S4x2560x16 (Scalar.ofBits .f32 0x42FC0000#32))) := by
    intro h hh
    unfold k0_pay6
    rw [hh]
    rfl
  generalize hh : k0_pay5 (F := Ideal) X S W = h
  refine (congrFun (e h hh) j).trans ?_
  rw [← amaxV_apply h j]
  exact exV_apply (amaxV h) j

/-- A block's column spread over its entries, and the clip. -/
def spreadV (v : FVec Ideal S4x2560x16 .f32) : FVec Ideal S4x2560x16x128 .f32 :=
  broadcastTo S4x2560x16x128 (shapeCast S4x2560x16x1 v shapeCasts_S4x2560x16_S4x2560x16x1) broadcasts_S4x2560x16x1_S4x2560x16x128

theorem spreadV_apply (v : FVec Ideal S4x2560x16 .f32) (j : S4x2560x16x128.Idx) : spreadV v j = v (ix3 (j 0) (j 1) (j 2)) := by
  unfold spreadV
  pointwise

def clipV (v82 : FVec Ideal S4x2560x16x128 .f32) : FVec Ideal S4x2560x16x128 .fp8e4m3 :=
  truncf .fp8e4m3 (minimumf (broadcast S4x2560x16x128 (Scalar.ofBits (F := Ideal) .f32 0x43E00000#32)) (maximumf (broadcast S4x2560x16x128 (Scalar.ofBits (F := Ideal) .f32 0xC3E00000#32)) v82)) bitsLt_fp8e4m3_f32

theorem clipV_apply (v : FVec Ideal S4x2560x16x128 .f32) (j : S4x2560x16x128.Idx) :
    clipV v j = min (Ideal.ofBits .f32 0x43E00000#32) (max (Ideal.ofBits .f32 0xC3E00000#32) (v j)) := by
  unfold clipV
  pointwise

theorem clipEx_apply (h : FVec Ideal S4x2560x16x128 .f32) (x : FVec Ideal S4x2560x16 .f32) (j : S4x2560x16x128.Idx) (z : ℤ)
    (hx : x (ix3 (j 0) (j 1) (j 2)) = ((z : ℝ) : EReal)) :
    clipV (mulf h (spreadV (exp2 (subf (broadcast S4x2560x16 (Scalar.ofBits (F := Ideal) .f32 0x00000000#32)) x)))) j
      = min (Ideal.ofBits .f32 0x43E00000#32) (max (Ideal.ofBits .f32 0xC3E00000#32) (h j * (((2 : ℝ) ^ (-z) : ℝ) : EReal))) := by
  have e0 : spreadV (exp2 (subf (broadcast S4x2560x16 (Scalar.ofBits (F := Ideal) .f32 0x00000000#32)) x)) j = (((2 : ℝ) ^ (-z) : ℝ) : EReal) := by
    refine (spreadV_apply _ j).trans ?_
    show Ideal.exp2 (Ideal.ofBits .f32 0x00000000#32 - x (ix3 (j 0) (j 1) (j 2))) = _
    rw [hx, Ideal.ofBits_zero_f32, zero_sub, ← EReal.coe_neg, ← Int.cast_neg, exp2_int]
  refine (clipV_apply _ j).trans ?_
  rw [← e0]
  rfl

theorem pay7_apply (X : FVec Ideal S4x2560x7168 .bf16) (S : FVec Ideal S4x4096x56x128 .bf16) (W : Vec Ideal S4x4096x7168 .fp8e4m3) (j : S4x2560x16x128.Idx) :
    k0_pay7 (F := Ideal) X S W j = codeV (blkA fun k => k0_pay5 (F := Ideal) X S W (ix4 (j 0) (j 1) (j 2) k)) (k0_pay5 (F := Ideal) X S W j) := by
  have e : ∀ h x, k0_pay5 (F := Ideal) X S W = h → k0_pay6 (F := Ideal) X S W = x → k0_pay7 (F := Ideal) X S W = clipV (mulf h (spreadV (exp2 (subf (broadcast S4x2560x16 (Scalar.ofBits .f32 0x00000000#32)) x)))) := by
    intro h x hh hx
    unfold k0_pay7
    rw [hh, hx]
    rfl
  have e6 := pay6_apply X S W (ix3 (j 0) (j 1) (j 2))
  generalize hx : k0_pay6 (F := Ideal) X S W = x at e6
  generalize hh : k0_pay5 (F := Ideal) X S W = h at e6
  refine (congrFun (e h x hh hx) j).trans ?_
  exact clipEx_apply h x j _ e6

/-- The blocks' entries are the intermediate entries. -/
theorem blk_eq (xc : Vec Ideal S4x2560x7168 .fp8e4m3) (xs : Vec Ideal S4x2560x56 .f32) (off cnt : Vec Ideal S4x20 .i32)
    (wc : Vec Ideal S4x4096x7168 .fp8e4m3) (ws : Vec Ideal S4x32x56 .f32) (e : Fin 4) (r : Fin 2560) (b : Fin 16) :
    (fun k : Fin 128 => k0_pay5 (F := Ideal) (k0_pay3 off cnt xc xs) (k0_pay4 ws) wc (ix4 e r b k)) = hBlk xc xs off cnt wc ws e r.val b.val := by
  funext k
  rw [pay5_apply]
  rfl

theorem pay8_eq (a0 : Vec Ideal S4x2560x7168 .fp8e4m3) (a1 : Vec Ideal S4x2560x56 .f32) (a2 a3 : Vec Ideal S4x20 .i32)
    (a4 : Vec Ideal S4x4096x7168 .fp8e4m3) (a5 : Vec Ideal S4x32x56 .f32) : k0_pay8 (F := Ideal) a0 a1 a2 a3 a4 a5 = k0_pay3 a2 a3 a0 a1 := by
  unfold k0_pay8
  rw [View.ld_unit_zero Cert.ReferenceIdeal.Value.hz2, View.ld_unit_zero Cert.ReferenceIdeal.Value.hz2, View.ld_unit_zero Cert.ReferenceIdeal.Value.hz0, View.ld_unit_zero Cert.ReferenceIdeal.Value.hz0]

theorem pay9_eq (a0 : Vec Ideal S4x2560x7168 .fp8e4m3) (a1 : Vec Ideal S4x2560x56 .f32) (a2 a3 : Vec Ideal S4x20 .i32)
    (a4 : Vec Ideal S4x4096x7168 .fp8e4m3) (a5 : Vec Ideal S4x32x56 .f32) : k0_pay9 (F := Ideal) a0 a1 a2 a3 a4 a5 = k0_pay4 a5 := by
  unfold k0_pay9
  rw [View.ld_unit_zero Cert.ReferenceIdeal.Value.hz0]

/-- The reference's codes. -/
theorem G6_eq (a0 : Vec Ideal S4x2560x7168 .fp8e4m3) (a1 : Vec Ideal S4x2560x56 .f32) (a2 a3 : Vec Ideal S4x20 .i32)
    (a4 : Vec Ideal S4x4096x7168 .fp8e4m3) (a5 : Vec Ideal S4x32x56 .f32) :
    Cert.ReferenceIdeal.Value.G6 (F := Ideal) a0 a1 a2 a3 a4 a5 = codes a0 a1 a2 a3 a4 a5 := by
  refine funext (α := S4x2560x2048.Idx) fun y => ?_
  have e : ∀ X : FVec Ideal S4x2560x16x128 .fp8e4m3, k0_pay1 X y = X (ix4 (y 0) (y 1) ⟨(y 2).val / 128, (Nat.div_lt_iff_lt_mul (by decide)).2 (y 2).isLt⟩ ⟨(y 2).val % 128, Nat.mod_lt _ (by decide)⟩) := by
    intro X
    unfold k0_pay1
    pointwise
  show k0_pay1 (k0_pay7 (k0_pay8 a0 a1 a2 a3 a4 a5) (k0_pay9 a0 a1 a2 a3 a4 a5) a4) y = _
  rw [pay8_eq, pay9_eq, e, pay7_apply, pay5_apply]
  have hb := blk_eq a0 a1 a2 a3 a4 a5 (y 0) (y 1) ⟨(y 2).val / 128, (Nat.div_lt_iff_lt_mul (by decide)).2 (y 2).isLt⟩
  unfold codes
  exact congrArg₂ codeV (congrArg blkA hb) (congrArg (hAt a0 a1 a2 a3 a4 a5 (y 0) (y 1).val) (Nat.div_add_mod _ _))

/-- The reference's scales. -/
theorem G7_eq (a0 : Vec Ideal S4x2560x7168 .fp8e4m3) (a1 : Vec Ideal S4x2560x56 .f32) (a2 a3 : Vec Ideal S4x20 .i32)
    (a4 : Vec Ideal S4x4096x7168 .fp8e4m3) (a5 : Vec Ideal S4x32x56 .f32) :
    Cert.ReferenceIdeal.Value.G7 (F := Ideal) a0 a1 a2 a3 a4 a5 = scales a0 a1 a2 a3 a4 a5 := by
  refine funext (α := S4x2560x16.Idx) fun y => ?_
  have hb := blk_eq a0 a1 a2 a3 a4 a5 (y 0) (y 1) (y 2)
  have e := pay6_apply (k0_pay3 a2 a3 a0 a1) (k0_pay4 a5) a4 y
  rw [hb] at e
  rw [← pay8_eq a0 a1 a2 a3 a4 a5, ← pay9_eq a0 a1 a2 a3 a4 a5] at e
  have e2 : ∀ X : FVec Ideal S4x2560x16 .f32, k0_pay2 X y = Ideal.exp2 (X y) := fun X => rfl
  exact (e2 _).trans ((congrArg Ideal.exp2 e).trans (exp2_int _))

end Cert.ReferenceIdeal.Up

end
-- ==== Proof.Precond.lean ====
module

public import proofs.«01_k».proof.Pre_counts_are_counts
public import Idealize.ShloMosaic.PureOps.Ideal
public import Idealize.ShloMosaic.Lib.ReduceAll
public import Idealize.ShloMosaic.Lib.Affine

@[expose] public section

noncomputable section

namespace Cert.Pre_counts_are_counts

open Idealize.ShloMosaic

/-! The precondition: its side conditions hold, and it says that no count is negative. -/

theorem facts : Facts := ⟨by decide, by decide, by decide⟩

instance : Subsingleton S_.Idx := ⟨fun a b => funext fun i => i.elim0⟩

theorem counts_nonneg [Facts] (a0 : FVec Ideal S4x2560x7168 .fp8e4m3) (a1 : FVec Ideal S4x2560x56 .f32) (a2 a3 : IVec S4x20 32)
    (a4 : FVec Ideal S4x4096x7168 .fp8e4m3) (a5 : FVec Ideal S4x32x56 .f32) (h : fn (F := Ideal) a0 a1 a2 a3 a4 a5 = fun _ => 1#1) (y : S4x20.Idx) :
    0 ≤ (a3 y).toInt := by
  dsimp only [fn] at h
  have e := Host.reduce_andi_all _ _ _ _ (fun a => a.elim0) (congrFun h (fun a => a.elim0)) y
  exact IntOp.cmpi_sge.1 e

end Cert.Pre_counts_are_counts

end
-- ==== Proof.lean ====
module

public import proofs.«01_k».proof.Defs
public import proofs.«01_k».proof.Proof.Ok
public import proofs.«01_k».proof.Proof.Frame
public import proofs.«01_k».proof.Proof.FrameIdeal
public import proofs.«01_k».proof.Proof.Final
public import proofs.«01_k».proof.Proof.RefVal
public import proofs.«01_k».proof.Proof.Precond
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The kernel's and the reference's results are the same two functions of the arguments, the counts being counts. -/
theorem equal : algebraic_KernelIdeal_ReferenceIdeal_pre_counts_are_counts (hKernelIdeal := Cert.KernelIdeal.Gen.facts)
    (hReferenceIdeal := Cert.ReferenceIdeal.Gen.facts) (hPre_counts_are_counts := Cert.Pre_counts_are_counts.facts) := by
  intro m g m' g' hp ha
  have hc : ∀ y, 0 ≤ (Cert.KernelIdeal.Up.cntM m y).toInt := fun y =>
    @Cert.Pre_counts_are_counts.counts_nonneg Cert.Pre_counts_are_counts.facts _ _ _ _ _ _ (hp 0) y
  refine ⟨fun _ => Cert.KernelIdeal.Up.mCodes m, fun _ => Cert.KernelIdeal.Up.mScales m,
    Cert.KernelIdeal.Up.run_values m g (Cert.KernelIdeal.Up.ok m) hc, ?_⟩
  refine (θ_run _ _ _).mono (fun r h c => ?_) (Cert.ReferenceIdeal.Value.run (F := Ideal) m' g')
  obtain rfl : c = (0 : Fin 1) := Subsingleton.elim (α := Fin 1) _ _
  obtain ⟨h0, h1, h2⟩ := h (0 : Fin 1)
  obtain ⟨a0, a1, a2, a3, a4, a5⟩ := ha (0 : Fin 1)
  refine ⟨h0.trans ((Cert.ReferenceIdeal.Up.G6_eq _ _ _ _ _ _).trans ?_), h1.trans ((Cert.ReferenceIdeal.Up.G7_eq _ _ _ _ _ _).trans ?_), h2⟩
  · rw [a0, a1, a2, a3, a4, a5]
    rfl
  · rw [a0, a1, a2, a3, a4, a5]
    rfl

/-- Every run completes, the ideal program is the kernel with no operation rewritten, and its results are the reference's. -/
theorem claim : Cert.Claim := ⟨Cert.Kernel.Gen.facts, Cert.KernelIdeal.Gen.facts, Cert.ReferenceIdeal.Gen.facts, Cert.Pre_counts_are_counts.facts,
  fun m ρ _ => Cert.Kernel.Up.frame_of_ok m ρ (Cert.Kernel.Up.ok m), fun m ρ _ => Cert.KernelIdeal.Up.frame_of_ok m ρ (Cert.KernelIdeal.Up.ok m),
  fun m ρ _ => Cert.KernelIdeal.Up.frame_of_ok m ρ (Cert.KernelIdeal.Up.ok m),
  fun m ρ _ => Cert.ReferenceIdeal.Gen.frame m ρ, fun m ρ _ => Cert.ReferenceIdeal.Gen.frame m ρ, trivial, equal⟩

end Cert.Proof

end
